-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S64x1024 : Shape := ⟨2, ![64, 1024]⟩
abbrev S8x4x64x128 : Shape := ⟨4, ![8, 4, 64, 128]⟩
abbrev S8 : Shape := ⟨1, ![8]⟩
abbrev S4x3 : Shape := ⟨2, ![4, 3]⟩
abbrev S4x4 : Shape := ⟨2, ![4, 4]⟩
abbrev S_ : Shape := ⟨0, ![]⟩
abbrev S64x512 : Shape := ⟨2, ![64, 512]⟩
abbrev S512x128 : Shape := ⟨2, ![512, 128]⟩
abbrev S64x128 : Shape := ⟨2, ![64, 128]⟩
abbrev S1x1x64x128 : Shape := ⟨4, ![1, 1, 64, 128]⟩
abbrev S1 : Shape := ⟨1, ![1]⟩
abbrev S1x4x64x128 : Shape := ⟨4, ![1, 4, 64, 128]⟩
abbrev S4x64x128 : Shape := ⟨3, ![4, 64, 128]⟩
abbrev S1x1 : Shape := ⟨2, ![1, 1]⟩
abbrev S2x1x64x128 : Shape := ⟨4, ![2, 1, 64, 128]⟩
abbrev S2x64x128 : Shape := ⟨3, ![2, 64, 128]⟩

abbrev nBuf : Space → Nat
  | .hbm => 3
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S64x1024, .f32⟩
  | .local _ .vmem, ⟨0, _⟩ => ⟨S1024x512, .f32⟩
  | .local _ .vmem, ⟨1, _⟩ => ⟨S512x1024, .f32⟩
  | .local _ .vmem, ⟨2, _⟩ => ⟨S64x1024, .f32⟩
  | .local _ .vmem, ⟨3, _⟩ => ⟨S8x4x64x128, .f32⟩
  | .local _ .vmem, ⟨4, _⟩ => ⟨S8x4x64x128, .f32⟩
  | .local _ .vmem, ⟨5, _⟩ => ⟨S8x4x64x128, .f32⟩
  | .local _ .vmem, ⟨6, _⟩ => ⟨S8x4x64x128, .f32⟩
  | .local _ .vmem, ⟨7, _⟩ => ⟨S8x4x64x128, .f32⟩
  | .local _ .vmem, ⟨8, _⟩ => ⟨S8x4x64x128, .f32⟩
  | .local _ .vmem, ⟨9, _⟩ => ⟨S8x4x64x128, .f32⟩
  | .local _ .vmem, ⟨10, _⟩ => ⟨S8x4x64x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  (ofTc nBuf bufTy 1 79 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_50 : BitVec 32 := 1#32
  let v96 : BitVec 32 := Scalar.muli v42 c1_i32_50
  let v97 : BitVec 32 := Scalar.addi c0_i32_51 v96
  v97.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_53 : BitVec 32 := 1#32
  let v98 : BitVec 32 := Scalar.muli v55 c1_i32_53
  let v99 : BitVec 32 := Scalar.addi c0_i32_54 v98
  v99.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v57 : BitVec 32 := Scalar.addi v19 c1_i32_27
  let c4_i32_28 : BitVec 32 := 4#32
  let c0_i32_29 : BitVec 32 := 0#32
  let v58 : BitVec 1 := Scalar.cmpi .eq c4_i32_28 c0_i32_29
  let c1_i32_30 : BitVec 32 := 1#32
  let v59 : BitVec 32 := Scalar.select v58 c1_i32_30 c4_i32_28
  let v60 : BitVec 32 := Scalar.remsi v57 v59
  let c0_i32_32 : BitVec 32 := 0#32
  let v62 : BitVec 1 := Scalar.cmpi .slt v60 c0_i32_32
  let c0_i32_33 : BitVec 32 := 0#32
  let v63 : BitVec 1 := Scalar.cmpi .slt v59 c0_i32_33
  let v64 : BitVec 1 := Scalar.xori v62 v63
  let c0_i32_31 : BitVec 32 := 0#32
  let v61 : BitVec 1 := Scalar.cmpi .ne v60 c0_i32_31
  let v65 : BitVec 1 := Scalar.andi v64 v61
  let v66 : BitVec 32 := Scalar.addi v60 v59
  let v67 : BitVec 32 := Scalar.select v65 v66 v60
  let c4_i32_34 : BitVec 32 := 4#32
  let v68 : BitVec 32 := Scalar.muli v67 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v69 : BitVec 32 := Scalar.addi v68 v29
  let c1_i32_56 : BitVec 32 := 1#32
  let v100 : BitVec 32 := Scalar.muli v69 c1_i32_56
  let v101 : BitVec 32 := Scalar.addi c0_i32_57 v100
  v101.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v70 : BitVec 32 := Scalar.addi v19 c2_i32
  let c4_i32_35 : BitVec 32 := 4#32
  let c0_i32_36 : BitVec 32 := 0#32
  let v71 : BitVec 1 := Scalar.cmpi .eq c4_i32_35 c0_i32_36
  let c1_i32_37 : BitVec 32 := 1#32
  let v72 : BitVec 32 := Scalar.select v71 c1_i32_37 c4_i32_35
  let v73 : BitVec 32 := Scalar.remsi v70 v72
  let c0_i32_39 : BitVec 32 := 0#32
  let v75 : BitVec 1 := Scalar.cmpi .slt v73 c0_i32_39
  let c0_i32_40 : BitVec 32 := 0#32
  let v76 : BitVec 1 := Scalar.cmpi .slt v72 c0_i32_40
  let v77 : BitVec 1 := Scalar.xori v75 v76
  let c0_i32_38 : BitVec 32 := 0#32
  let v74 : BitVec 1 := Scalar.cmpi .ne v73 c0_i32_38
  let v78 : BitVec 1 := Scalar.andi v77 v74
  let v79 : BitVec 32 := Scalar.addi v73 v72
  let v80 : BitVec 32 := Scalar.select v78 v79 v73
  let c4_i32_41 : BitVec 32 := 4#32
  let v81 : BitVec 32 := Scalar.muli v80 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v82 : BitVec 32 := Scalar.addi v81 v29
  let c1_i32_59 : BitVec 32 := 1#32
  let v102 : BitVec 32 := Scalar.muli v82 c1_i32_59
  let v103 : BitVec 32 := Scalar.addi c0_i32_60 v102
  v103.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v83 : BitVec 32 := Scalar.addi v19 c3_i32
  let c4_i32_42 : BitVec 32 := 4#32
  let c0_i32_43 : BitVec 32 := 0#32
  let v84 : BitVec 1 := Scalar.cmpi .eq c4_i32_42 c0_i32_43
  let c1_i32_44 : BitVec 32 := 1#32
  let v85 : BitVec 32 := Scalar.select v84 c1_i32_44 c4_i32_42
  let v86 : BitVec 32 := Scalar.remsi v83 v85
  let c0_i32_46 : BitVec 32 := 0#32
  let v88 : BitVec 1 := Scalar.cmpi .slt v86 c0_i32_46
  let c0_i32_47 : BitVec 32 := 0#32
  let v89 : BitVec 1 := Scalar.cmpi .slt v85 c0_i32_47
  let v90 : BitVec 1 := Scalar.xori v88 v89
  let c0_i32_45 : BitVec 32 := 0#32
  let v87 : BitVec 1 := Scalar.cmpi .ne v86 c0_i32_45
  let v91 : BitVec 1 := Scalar.andi v90 v87
  let v92 : BitVec 32 := Scalar.addi v86 v85
  let v93 : BitVec 32 := Scalar.select v91 v92 v86
  let c4_i32_48 : BitVec 32 := 4#32
  let v94 : BitVec 32 := Scalar.muli v93 c4_i32_48
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_62 : BitVec 32 := 1#32
  let v104 : BitVec 32 := Scalar.muli v95 c1_i32_62
  let v105 : BitVec 32 := Scalar.addi c0_i32_63 v104
  v105.toNat
def k0_off1 (d0 : Dev nD) (c0_i32_71 : BitVec 32) (c2_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v106 : BitVec 32 := Scalar.addi v29 c2_i32_64
  let c4_i32_65 : BitVec 32 := 4#32
  let c0_i32_66 : BitVec 32 := 0#32
  let v107 : BitVec 1 := Scalar.cmpi .eq c4_i32_65 c0_i32_66
  let c1_i32_67 : BitVec 32 := 1#32
  let v108 : BitVec 32 := Scalar.select v107 c1_i32_67 c4_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let c64_i32 : BitVec 32 := 64#32
  let v117 : BitVec 32 := Scalar.muli v116 c64_i32
  let v118 : BitVec 32 := Scalar.addi c0_i32_71 v117
  let v119 : Index := Scalar.indexCast v118
  let c0 : Index := 0#32
  ![v119.toNat, 0]
def k0_dev6 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_592 : BitVec 32 := 1#32
  let v810 : BitVec 32 := Scalar.muli v55 c1_i32_592
  let v811 : BitVec 32 := Scalar.addi c0_i32_593 v810
  v811.toNat
def k0_dev7 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_604 : BitVec 32 := 1#32
  let v820 : BitVec 32 := Scalar.muli v42 c1_i32_604
  let v821 : BitVec 32 := Scalar.addi c0_i32_605 v820
  v821.toNat
def k0_dev8 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_616 : BitVec 32 := 1#32
  let v830 : BitVec 32 := Scalar.muli v55 c1_i32_616
  let v831 : BitVec 32 := Scalar.addi c0_i32_617 v830
  v831.toNat
def k0_dev9 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_628 : BitVec 32 := 1#32
  let v840 : BitVec 32 := Scalar.muli v42 c1_i32_628
  let v841 : BitVec 32 := Scalar.addi c0_i32_629 v840
  v841.toNat
def k0_dev10 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_640 : BitVec 32 := 1#32
  let v850 : BitVec 32 := Scalar.muli v55 c1_i32_640
  let v851 : BitVec 32 := Scalar.addi c0_i32_641 v850
  v851.toNat
def k0_dev11 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_652 : BitVec 32 := 1#32
  let v860 : BitVec 32 := Scalar.muli v42 c1_i32_652
  let v861 : BitVec 32 := Scalar.addi c0_i32_653 v860
  v861.toNat
def k0_dev12 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_663 : BitVec 32 := 1#32
  let v870 : BitVec 32 := Scalar.muli v55 c1_i32_663
  let v871 : BitVec 32 := Scalar.addi c0_i32_664 v870
  v871.toNat
def k0_dev13 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_674 : BitVec 32 := 1#32
  let v880 : BitVec 32 := Scalar.muli v42 c1_i32_674
  let v881 : BitVec 32 := Scalar.addi c0_i32_675 v880
  v881.toNat
def k0_off2 (d0 : Dev nD) (c0_i32_691 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_682 : BitVec 32 := 4#32
  let v890 : BitVec 32 := Scalar.addi v29 c4_i32_682
  let c1_i32_683 : BitVec 32 := 1#32
  let v891 : BitVec 32 := Scalar.subi v890 c1_i32_683
  let c4_i32_684 : BitVec 32 := 4#32
  let c0_i32_685 : BitVec 32 := 0#32
  let v892 : BitVec 1 := Scalar.cmpi .eq c4_i32_684 c0_i32_685
  let c1_i32_686 : BitVec 32 := 1#32
  let v893 : BitVec 32 := Scalar.select v892 c1_i32_686 c4_i32_684
  let v894 : BitVec 32 := Scalar.remsi v891 v893
  let c0_i32_688 : BitVec 32 := 0#32
  let v896 : BitVec 1 := Scalar.cmpi .slt v894 c0_i32_688
  let c0_i32_689 : BitVec 32 := 0#32
  let v897 : BitVec 1 := Scalar.cmpi .slt v893 c0_i32_689
  let v898 : BitVec 1 := Scalar.xori v896 v897
  let c0_i32_687 : BitVec 32 := 0#32
  let v895 : BitVec 1 := Scalar.cmpi .ne v894 c0_i32_687
  let v899 : BitVec 1 := Scalar.andi v898 v895
  let v900 : BitVec 32 := Scalar.addi v894 v893
  let v901 : BitVec 32 := Scalar.select v899 v900 v894
  let c64_i32_690 : BitVec 32 := 64#32
  let v902 : BitVec 32 := Scalar.muli v901 c64_i32_690
  let v903 : BitVec 32 := Scalar.addi c0_i32_691 v902
  let v904 : Index := Scalar.indexCast v903
  let c0_692 : Index := 0#32
  ![v904.toNat, 0]
def k0_dev14 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_886 : BitVec 32 := 1#32
  let v1110 : BitVec 32 := Scalar.muli v55 c1_i32_886
  let v1111 : BitVec 32 := Scalar.addi c0_i32_887 v1110
  v1111.toNat
def k0_dev15 (d0 : Dev nD) : Nat :=
  let c0_i32_959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_958 : BitVec 32 := 1#32
  let v1160 : BitVec 32 := Scalar.muli v42 c1_i32_958
  let v1161 : BitVec 32 := Scalar.addi c0_i32_959 v1160
  v1161.toNat
def k0_dev16 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1038 : BitVec 32 := 1#32
  let v1258 : BitVec 32 := Scalar.muli v42 c1_i32_1038
  let v1259 : BitVec 32 := Scalar.addi c0_i32_1039 v1258
  v1259.toNat
def k0_dev17 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1122 : BitVec 32 := 1#32
  let v1360 : BitVec 32 := Scalar.muli v55 c1_i32_1122
  let v1361 : BitVec 32 := Scalar.addi c0_i32_1123 v1360
  v1361.toNat
def k0_dev18 (d0 : Dev nD) : Nat :=
  let c0_i32_1335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1334 : BitVec 32 := 1#32
  let v1590 : BitVec 32 := Scalar.muli v55 c1_i32_1334
  let v1591 : BitVec 32 := Scalar.addi c0_i32_1335 v1590
  v1591.toNat
def k0_dev19 (d0 : Dev nD) : Nat :=
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1406 : BitVec 32 := 1#32
  let v1640 : BitVec 32 := Scalar.muli v42 c1_i32_1406
  let v1641 : BitVec 32 := Scalar.addi c0_i32_1407 v1640
  v1641.toNat
def k0_dev20 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1486 : BitVec 32 := 1#32
  let v1738 : BitVec 32 := Scalar.muli v42 c1_i32_1486
  let v1739 : BitVec 32 := Scalar.addi c0_i32_1487 v1738
  v1739.toNat
def k0_dev21 (d0 : Dev nD) : Nat :=
  let c0_i32_1571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1570 : BitVec 32 := 1#32
  let v1840 : BitVec 32 := Scalar.muli v55 c1_i32_1570
  let v1841 : BitVec 32 := Scalar.addi c0_i32_1571 v1840
  v1841.toNat
def k0_dev22 (d0 : Dev nD) : Nat :=
  let c0_i32_1783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1782 : BitVec 32 := 1#32
  let v2070 : BitVec 32 := Scalar.muli v55 c1_i32_1782
  let v2071 : BitVec 32 := Scalar.addi c0_i32_1783 v2070
  v2071.toNat
def k0_dev23 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1854 : BitVec 32 := 1#32
  let v2120 : BitVec 32 := Scalar.muli v42 c1_i32_1854
  let v2121 : BitVec 32 := Scalar.addi c0_i32_1855 v2120
  v2121.toNat
def k0_dev24 (d0 : Dev nD) : Nat :=
  let c0_i32_1935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1934 : BitVec 32 := 1#32
  let v2218 : BitVec 32 := Scalar.muli v42 c1_i32_1934
  let v2219 : BitVec 32 := Scalar.addi c0_i32_1935 v2218
  v2219.toNat
def k0_dev25 (d0 : Dev nD) : Nat :=
  let c0_i32_2019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2018 : BitVec 32 := 1#32
  let v2320 : BitVec 32 := Scalar.muli v55 c1_i32_2018
  let v2321 : BitVec 32 := Scalar.addi c0_i32_2019 v2320
  v2321.toNat
def k0_dev26 (d0 : Dev nD) : Nat :=
  let c0_i32_2231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2230 : BitVec 32 := 1#32
  let v2550 : BitVec 32 := Scalar.muli v55 c1_i32_2230
  let v2551 : BitVec 32 := Scalar.addi c0_i32_2231 v2550
  v2551.toNat
def k0_dev27 (d0 : Dev nD) : Nat :=
  let c0_i32_2303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2302 : BitVec 32 := 1#32
  let v2600 : BitVec 32 := Scalar.muli v42 c1_i32_2302
  let v2601 : BitVec 32 := Scalar.addi c0_i32_2303 v2600
  v2601.toNat
def k0_dev28 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2382 : BitVec 32 := 1#32
  let v2698 : BitVec 32 := Scalar.muli v42 c1_i32_2382
  let v2699 : BitVec 32 := Scalar.addi c0_i32_2383 v2698
  v2699.toNat
def k0_dev29 (d0 : Dev nD) : Nat :=
  let c0_i32_2467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2466 : BitVec 32 := 1#32
  let v2800 : BitVec 32 := Scalar.muli v55 c1_i32_2466
  let v2801 : BitVec 32 := Scalar.addi c0_i32_2467 v2800
  v2801.toNat
def k0_off3 (d0 : Dev nD) (c0_i32_2475 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c64_i32_2474 : BitVec 32 := 64#32
  let v2810 : BitVec 32 := Scalar.muli v29 c64_i32_2474
  let v2811 : BitVec 32 := Scalar.addi c0_i32_2475 v2810
  let v2812 : Index := Scalar.indexCast v2811
  let c0_2476 : Index := 0#32
  ![v2812.toNat, 0]
def k0_off4 (d0 : Dev nD) : Fin 2 → Nat :=
  let c0_i32_2978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![0, v19.toNat]
def k0_off5 (d0 : Dev nD) : Fin 4 → Nat :=
  let c0_i32_2983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2984 : BitVec 32 := 0#32
  let c0_i32_2985 : BitVec 32 := 0#32
  ![0, v19.toNat, 0, 0]
def k0_off6 (d0 : Dev nD) (c1_i32_2970 : BitVec 32) : Fin 4 → Nat :=
  let c0_i32_2986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3282 : BitVec 32 := Scalar.addi v19 c1_i32_2970
  let c4_i32_2971 : BitVec 32 := 4#32
  let c0_i32_2972 : BitVec 32 := 0#32
  let v3283 : BitVec 1 := Scalar.cmpi .eq c4_i32_2971 c0_i32_2972
  let c1_i32_2973 : BitVec 32 := 1#32
  let v3284 : BitVec 32 := Scalar.select v3283 c1_i32_2973 c4_i32_2971
  let v3285 : BitVec 32 := Scalar.remsi v3282 v3284
  let c0_i32_2975 : BitVec 32 := 0#32
  let v3287 : BitVec 1 := Scalar.cmpi .slt v3285 c0_i32_2975
  let c0_i32_2976 : BitVec 32 := 0#32
  let v3288 : BitVec 1 := Scalar.cmpi .slt v3284 c0_i32_2976
  let v3289 : BitVec 1 := Scalar.xori v3287 v3288
  let c0_i32_2974 : BitVec 32 := 0#32
  let v3286 : BitVec 1 := Scalar.cmpi .ne v3285 c0_i32_2974
  let v3290 : BitVec 1 := Scalar.andi v3289 v3286
  let v3291 : BitVec 32 := Scalar.addi v3285 v3284
  let v3292 : BitVec 32 := Scalar.select v3290 v3291 v3285
  let c0_i32_2987 : BitVec 32 := 0#32
  let c0_i32_2988 : BitVec 32 := 0#32
  ![0, v3292.toNat, 0, 0]
def k0_dev30 (d0 : Dev nD) : Nat :=
  let c0_i32_2982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2970 : BitVec 32 := 1#32
  let v3282 : BitVec 32 := Scalar.addi v19 c1_i32_2970
  let c4_i32_2971 : BitVec 32 := 4#32
  let c0_i32_2972 : BitVec 32 := 0#32
  let v3283 : BitVec 1 := Scalar.cmpi .eq c4_i32_2971 c0_i32_2972
  let c1_i32_2973 : BitVec 32 := 1#32
  let v3284 : BitVec 32 := Scalar.select v3283 c1_i32_2973 c4_i32_2971
  let v3285 : BitVec 32 := Scalar.remsi v3282 v3284
  let c0_i32_2975 : BitVec 32 := 0#32
  let v3287 : BitVec 1 := Scalar.cmpi .slt v3285 c0_i32_2975
  let c0_i32_2976 : BitVec 32 := 0#32
  let v3288 : BitVec 1 := Scalar.cmpi .slt v3284 c0_i32_2976
  let v3289 : BitVec 1 := Scalar.xori v3287 v3288
  let c0_i32_2974 : BitVec 32 := 0#32
  let v3286 : BitVec 1 := Scalar.cmpi .ne v3285 c0_i32_2974
  let v3290 : BitVec 1 := Scalar.andi v3289 v3286
  let v3291 : BitVec 32 := Scalar.addi v3285 v3284
  let v3292 : BitVec 32 := Scalar.select v3290 v3291 v3285
  let c4_i32_2977 : BitVec 32 := 4#32
  let v3293 : BitVec 32 := Scalar.muli v3292 c4_i32_2977
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3294 : BitVec 32 := Scalar.addi v3293 v29
  let c1_i32_2981 : BitVec 32 := 1#32
  let v3295 : BitVec 32 := Scalar.muli v3294 c1_i32_2981
  let v3296 : BitVec 32 := Scalar.addi c0_i32_2982 v3295
  v3296.toNat
def k0_dev31 (d0 : Dev nD) : Nat :=
  let c0_i32_3001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2989 : BitVec 32 := 2#32
  let v3305 : BitVec 32 := Scalar.addi v19 c2_i32_2989
  let c4_i32_2990 : BitVec 32 := 4#32
  let c0_i32_2991 : BitVec 32 := 0#32
  let v3306 : BitVec 1 := Scalar.cmpi .eq c4_i32_2990 c0_i32_2991
  let c1_i32_2992 : BitVec 32 := 1#32
  let v3307 : BitVec 32 := Scalar.select v3306 c1_i32_2992 c4_i32_2990
  let v3308 : BitVec 32 := Scalar.remsi v3305 v3307
  let c0_i32_2994 : BitVec 32 := 0#32
  let v3310 : BitVec 1 := Scalar.cmpi .slt v3308 c0_i32_2994
  let c0_i32_2995 : BitVec 32 := 0#32
  let v3311 : BitVec 1 := Scalar.cmpi .slt v3307 c0_i32_2995
  let v3312 : BitVec 1 := Scalar.xori v3310 v3311
  let c0_i32_2993 : BitVec 32 := 0#32
  let v3309 : BitVec 1 := Scalar.cmpi .ne v3308 c0_i32_2993
  let v3313 : BitVec 1 := Scalar.andi v3312 v3309
  let v3314 : BitVec 32 := Scalar.addi v3308 v3307
  let v3315 : BitVec 32 := Scalar.select v3313 v3314 v3308
  let c4_i32_2996 : BitVec 32 := 4#32
  let v3316 : BitVec 32 := Scalar.muli v3315 c4_i32_2996
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3317 : BitVec 32 := Scalar.addi v3316 v29
  let c1_i32_3000 : BitVec 32 := 1#32
  let v3318 : BitVec 32 := Scalar.muli v3317 c1_i32_3000
  let v3319 : BitVec 32 := Scalar.addi c0_i32_3001 v3318
  v3319.toNat
def k0_dev32 (d0 : Dev nD) : Nat :=
  let c0_i32_3020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3008 : BitVec 32 := 3#32
  let v3328 : BitVec 32 := Scalar.addi v19 c3_i32_3008
  let c4_i32_3009 : BitVec 32 := 4#32
  let c0_i32_3010 : BitVec 32 := 0#32
  let v3329 : BitVec 1 := Scalar.cmpi .eq c4_i32_3009 c0_i32_3010
  let c1_i32_3011 : BitVec 32 := 1#32
  let v3330 : BitVec 32 := Scalar.select v3329 c1_i32_3011 c4_i32_3009
  let v3331 : BitVec 32 := Scalar.remsi v3328 v3330
  let c0_i32_3013 : BitVec 32 := 0#32
  let v3333 : BitVec 1 := Scalar.cmpi .slt v3331 c0_i32_3013
  let c0_i32_3014 : BitVec 32 := 0#32
  let v3334 : BitVec 1 := Scalar.cmpi .slt v3330 c0_i32_3014
  let v3335 : BitVec 1 := Scalar.xori v3333 v3334
  let c0_i32_3012 : BitVec 32 := 0#32
  let v3332 : BitVec 1 := Scalar.cmpi .ne v3331 c0_i32_3012
  let v3336 : BitVec 1 := Scalar.andi v3335 v3332
  let v3337 : BitVec 32 := Scalar.addi v3331 v3330
  let v3338 : BitVec 32 := Scalar.select v3336 v3337 v3331
  let c4_i32_3015 : BitVec 32 := 4#32
  let v3339 : BitVec 32 := Scalar.muli v3338 c4_i32_3015
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3340 : BitVec 32 := Scalar.addi v3339 v29
  let c1_i32_3019 : BitVec 32 := 1#32
  let v3341 : BitVec 32 := Scalar.muli v3340 c1_i32_3019
  let v3342 : BitVec 32 := Scalar.addi c0_i32_3020 v3341
  v3342.toNat
def k0_off7 (d0 : Dev nD) : Fin 2 → Nat :=
  let c1_i32_3211 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![1, v19.toNat]
def k0_off8 (d0 : Dev nD) : Fin 4 → Nat :=
  let c2_i32_3216 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3217 : BitVec 32 := 0#32
  let c0_i32_3218 : BitVec 32 := 0#32
  ![2, v19.toNat, 0, 0]
def k0_off9 (d0 : Dev nD) (c1_i32_3203 : BitVec 32) : Fin 4 → Nat :=
  let c2_i32_3219 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3471 : BitVec 32 := Scalar.addi v19 c1_i32_3203
  let c4_i32_3204 : BitVec 32 := 4#32
  let c0_i32_3205 : BitVec 32 := 0#32
  let v3472 : BitVec 1 := Scalar.cmpi .eq c4_i32_3204 c0_i32_3205
  let c1_i32_3206 : BitVec 32 := 1#32
  let v3473 : BitVec 32 := Scalar.select v3472 c1_i32_3206 c4_i32_3204
  let v3474 : BitVec 32 := Scalar.remsi v3471 v3473
  let c0_i32_3208 : BitVec 32 := 0#32
  let v3476 : BitVec 1 := Scalar.cmpi .slt v3474 c0_i32_3208
  let c0_i32_3209 : BitVec 32 := 0#32
  let v3477 : BitVec 1 := Scalar.cmpi .slt v3473 c0_i32_3209
  let v3478 : BitVec 1 := Scalar.xori v3476 v3477
  let c0_i32_3207 : BitVec 32 := 0#32
  let v3475 : BitVec 1 := Scalar.cmpi .ne v3474 c0_i32_3207
  let v3479 : BitVec 1 := Scalar.andi v3478 v3475
  let v3480 : BitVec 32 := Scalar.addi v3474 v3473
  let v3481 : BitVec 32 := Scalar.select v3479 v3480 v3474
  let c0_i32_3220 : BitVec 32 := 0#32
  let c0_i32_3221 : BitVec 32 := 0#32
  ![2, v3481.toNat, 0, 0]
def k0_dev33 (d0 : Dev nD) : Nat :=
  let c0_i32_3215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_3203 : BitVec 32 := 1#32
  let v3471 : BitVec 32 := Scalar.addi v19 c1_i32_3203
  let c4_i32_3204 : BitVec 32 := 4#32
  let c0_i32_3205 : BitVec 32 := 0#32
  let v3472 : BitVec 1 := Scalar.cmpi .eq c4_i32_3204 c0_i32_3205
  let c1_i32_3206 : BitVec 32 := 1#32
  let v3473 : BitVec 32 := Scalar.select v3472 c1_i32_3206 c4_i32_3204
  let v3474 : BitVec 32 := Scalar.remsi v3471 v3473
  let c0_i32_3208 : BitVec 32 := 0#32
  let v3476 : BitVec 1 := Scalar.cmpi .slt v3474 c0_i32_3208
  let c0_i32_3209 : BitVec 32 := 0#32
  let v3477 : BitVec 1 := Scalar.cmpi .slt v3473 c0_i32_3209
  let v3478 : BitVec 1 := Scalar.xori v3476 v3477
  let c0_i32_3207 : BitVec 32 := 0#32
  let v3475 : BitVec 1 := Scalar.cmpi .ne v3474 c0_i32_3207
  let v3479 : BitVec 1 := Scalar.andi v3478 v3475
  let v3480 : BitVec 32 := Scalar.addi v3474 v3473
  let v3481 : BitVec 32 := Scalar.select v3479 v3480 v3474
  let c4_i32_3210 : BitVec 32 := 4#32
  let v3482 : BitVec 32 := Scalar.muli v3481 c4_i32_3210
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3483 : BitVec 32 := Scalar.addi v3482 v29
  let c1_i32_3214 : BitVec 32 := 1#32
  let v3484 : BitVec 32 := Scalar.muli v3483 c1_i32_3214
  let v3485 : BitVec 32 := Scalar.addi c0_i32_3215 v3484
  v3485.toNat
def k0_dev34 (d0 : Dev nD) : Nat :=
  let c0_i32_3234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_3222 : BitVec 32 := 2#32
  let v3494 : BitVec 32 := Scalar.addi v19 c2_i32_3222
  let c4_i32_3223 : BitVec 32 := 4#32
  let c0_i32_3224 : BitVec 32 := 0#32
  let v3495 : BitVec 1 := Scalar.cmpi .eq c4_i32_3223 c0_i32_3224
  let c1_i32_3225 : BitVec 32 := 1#32
  let v3496 : BitVec 32 := Scalar.select v3495 c1_i32_3225 c4_i32_3223
  let v3497 : BitVec 32 := Scalar.remsi v3494 v3496
  let c0_i32_3227 : BitVec 32 := 0#32
  let v3499 : BitVec 1 := Scalar.cmpi .slt v3497 c0_i32_3227
  let c0_i32_3228 : BitVec 32 := 0#32
  let v3500 : BitVec 1 := Scalar.cmpi .slt v3496 c0_i32_3228
  let v3501 : BitVec 1 := Scalar.xori v3499 v3500
  let c0_i32_3226 : BitVec 32 := 0#32
  let v3498 : BitVec 1 := Scalar.cmpi .ne v3497 c0_i32_3226
  let v3502 : BitVec 1 := Scalar.andi v3501 v3498
  let v3503 : BitVec 32 := Scalar.addi v3497 v3496
  let v3504 : BitVec 32 := Scalar.select v3502 v3503 v3497
  let c4_i32_3229 : BitVec 32 := 4#32
  let v3505 : BitVec 32 := Scalar.muli v3504 c4_i32_3229
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3506 : BitVec 32 := Scalar.addi v3505 v29
  let c1_i32_3233 : BitVec 32 := 1#32
  let v3507 : BitVec 32 := Scalar.muli v3506 c1_i32_3233
  let v3508 : BitVec 32 := Scalar.addi c0_i32_3234 v3507
  v3508.toNat
def k0_dev35 (d0 : Dev nD) : Nat :=
  let c0_i32_3253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3241 : BitVec 32 := 3#32
  let v3517 : BitVec 32 := Scalar.addi v19 c3_i32_3241
  let c4_i32_3242 : BitVec 32 := 4#32
  let c0_i32_3243 : BitVec 32 := 0#32
  let v3518 : BitVec 1 := Scalar.cmpi .eq c4_i32_3242 c0_i32_3243
  let c1_i32_3244 : BitVec 32 := 1#32
  let v3519 : BitVec 32 := Scalar.select v3518 c1_i32_3244 c4_i32_3242
  let v3520 : BitVec 32 := Scalar.remsi v3517 v3519
  let c0_i32_3246 : BitVec 32 := 0#32
  let v3522 : BitVec 1 := Scalar.cmpi .slt v3520 c0_i32_3246
  let c0_i32_3247 : BitVec 32 := 0#32
  let v3523 : BitVec 1 := Scalar.cmpi .slt v3519 c0_i32_3247
  let v3524 : BitVec 1 := Scalar.xori v3522 v3523
  let c0_i32_3245 : BitVec 32 := 0#32
  let v3521 : BitVec 1 := Scalar.cmpi .ne v3520 c0_i32_3245
  let v3525 : BitVec 1 := Scalar.andi v3524 v3521
  let v3526 : BitVec 32 := Scalar.addi v3520 v3519
  let v3527 : BitVec 32 := Scalar.select v3525 v3526 v3520
  let c4_i32_3248 : BitVec 32 := 4#32
  let v3528 : BitVec 32 := Scalar.muli v3527 c4_i32_3248
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3529 : BitVec 32 := Scalar.addi v3528 v29
  let c1_i32_3252 : BitVec 32 := 1#32
  let v3530 : BitVec 32 := Scalar.muli v3529 c1_i32_3252
  let v3531 : BitVec 32 := Scalar.addi c0_i32_3253 v3530
  v3531.toNat
def k0_off10 (d0 : Dev nD) : Fin 2 → Nat :=
  let c2_i32_3444 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![2, v19.toNat]
def k0_off11 (d0 : Dev nD) : Fin 4 → Nat :=
  let c4_i32_3449 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3450 : BitVec 32 := 0#32
  let c0_i32_3451 : BitVec 32 := 0#32
  ![4, v19.toNat, 0, 0]
def k0_off12 (d0 : Dev nD) (c1_i32_3436 : BitVec 32) : Fin 4 → Nat :=
  let c4_i32_3452 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3660 : BitVec 32 := Scalar.addi v19 c1_i32_3436
  let c4_i32_3437 : BitVec 32 := 4#32
  let c0_i32_3438 : BitVec 32 := 0#32
  let v3661 : BitVec 1 := Scalar.cmpi .eq c4_i32_3437 c0_i32_3438
  let c1_i32_3439 : BitVec 32 := 1#32
  let v3662 : BitVec 32 := Scalar.select v3661 c1_i32_3439 c4_i32_3437
  let v3663 : BitVec 32 := Scalar.remsi v3660 v3662
  let c0_i32_3441 : BitVec 32 := 0#32
  let v3665 : BitVec 1 := Scalar.cmpi .slt v3663 c0_i32_3441
  let c0_i32_3442 : BitVec 32 := 0#32
  let v3666 : BitVec 1 := Scalar.cmpi .slt v3662 c0_i32_3442
  let v3667 : BitVec 1 := Scalar.xori v3665 v3666
  let c0_i32_3440 : BitVec 32 := 0#32
  let v3664 : BitVec 1 := Scalar.cmpi .ne v3663 c0_i32_3440
  let v3668 : BitVec 1 := Scalar.andi v3667 v3664
  let v3669 : BitVec 32 := Scalar.addi v3663 v3662
  let v3670 : BitVec 32 := Scalar.select v3668 v3669 v3663
  let c0_i32_3453 : BitVec 32 := 0#32
  let c0_i32_3454 : BitVec 32 := 0#32
  ![4, v3670.toNat, 0, 0]
def k0_dev36 (d0 : Dev nD) : Nat :=
  let c0_i32_3448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_3436 : BitVec 32 := 1#32
  let v3660 : BitVec 32 := Scalar.addi v19 c1_i32_3436
  let c4_i32_3437 : BitVec 32 := 4#32
  let c0_i32_3438 : BitVec 32 := 0#32
  let v3661 : BitVec 1 := Scalar.cmpi .eq c4_i32_3437 c0_i32_3438
  let c1_i32_3439 : BitVec 32 := 1#32
  let v3662 : BitVec 32 := Scalar.select v3661 c1_i32_3439 c4_i32_3437
  let v3663 : BitVec 32 := Scalar.remsi v3660 v3662
  let c0_i32_3441 : BitVec 32 := 0#32
  let v3665 : BitVec 1 := Scalar.cmpi .slt v3663 c0_i32_3441
  let c0_i32_3442 : BitVec 32 := 0#32
  let v3666 : BitVec 1 := Scalar.cmpi .slt v3662 c0_i32_3442
  let v3667 : BitVec 1 := Scalar.xori v3665 v3666
  let c0_i32_3440 : BitVec 32 := 0#32
  let v3664 : BitVec 1 := Scalar.cmpi .ne v3663 c0_i32_3440
  let v3668 : BitVec 1 := Scalar.andi v3667 v3664
  let v3669 : BitVec 32 := Scalar.addi v3663 v3662
  let v3670 : BitVec 32 := Scalar.select v3668 v3669 v3663
  let c4_i32_3443 : BitVec 32 := 4#32
  let v3671 : BitVec 32 := Scalar.muli v3670 c4_i32_3443
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3672 : BitVec 32 := Scalar.addi v3671 v29
  let c1_i32_3447 : BitVec 32 := 1#32
  let v3673 : BitVec 32 := Scalar.muli v3672 c1_i32_3447
  let v3674 : BitVec 32 := Scalar.addi c0_i32_3448 v3673
  v3674.toNat
def k0_dev37 (d0 : Dev nD) : Nat :=
  let c0_i32_3467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_3455 : BitVec 32 := 2#32
  let v3683 : BitVec 32 := Scalar.addi v19 c2_i32_3455
  let c4_i32_3456 : BitVec 32 := 4#32
  let c0_i32_3457 : BitVec 32 := 0#32
  let v3684 : BitVec 1 := Scalar.cmpi .eq c4_i32_3456 c0_i32_3457
  let c1_i32_3458 : BitVec 32 := 1#32
  let v3685 : BitVec 32 := Scalar.select v3684 c1_i32_3458 c4_i32_3456
  let v3686 : BitVec 32 := Scalar.remsi v3683 v3685
  let c0_i32_3460 : BitVec 32 := 0#32
  let v3688 : BitVec 1 := Scalar.cmpi .slt v3686 c0_i32_3460
  let c0_i32_3461 : BitVec 32 := 0#32
  let v3689 : BitVec 1 := Scalar.cmpi .slt v3685 c0_i32_3461
  let v3690 : BitVec 1 := Scalar.xori v3688 v3689
  let c0_i32_3459 : BitVec 32 := 0#32
  let v3687 : BitVec 1 := Scalar.cmpi .ne v3686 c0_i32_3459
  let v3691 : BitVec 1 := Scalar.andi v3690 v3687
  let v3692 : BitVec 32 := Scalar.addi v3686 v3685
  let v3693 : BitVec 32 := Scalar.select v3691 v3692 v3686
  let c4_i32_3462 : BitVec 32 := 4#32
  let v3694 : BitVec 32 := Scalar.muli v3693 c4_i32_3462
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3695 : BitVec 32 := Scalar.addi v3694 v29
  let c1_i32_3466 : BitVec 32 := 1#32
  let v3696 : BitVec 32 := Scalar.muli v3695 c1_i32_3466
  let v3697 : BitVec 32 := Scalar.addi c0_i32_3467 v3696
  v3697.toNat
def k0_dev38 (d0 : Dev nD) : Nat :=
  let c0_i32_3486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3474 : BitVec 32 := 3#32
  let v3706 : BitVec 32 := Scalar.addi v19 c3_i32_3474
  let c4_i32_3475 : BitVec 32 := 4#32
  let c0_i32_3476 : BitVec 32 := 0#32
  let v3707 : BitVec 1 := Scalar.cmpi .eq c4_i32_3475 c0_i32_3476
  let c1_i32_3477 : BitVec 32 := 1#32
  let v3708 : BitVec 32 := Scalar.select v3707 c1_i32_3477 c4_i32_3475
  let v3709 : BitVec 32 := Scalar.remsi v3706 v3708
  let c0_i32_3479 : BitVec 32 := 0#32
  let v3711 : BitVec 1 := Scalar.cmpi .slt v3709 c0_i32_3479
  let c0_i32_3480 : BitVec 32 := 0#32
  let v3712 : BitVec 1 := Scalar.cmpi .slt v3708 c0_i32_3480
  let v3713 : BitVec 1 := Scalar.xori v3711 v3712
  let c0_i32_3478 : BitVec 32 := 0#32
  let v3710 : BitVec 1 := Scalar.cmpi .ne v3709 c0_i32_3478
  let v3714 : BitVec 1 := Scalar.andi v3713 v3710
  let v3715 : BitVec 32 := Scalar.addi v3709 v3708
  let v3716 : BitVec 32 := Scalar.select v3714 v3715 v3709
  let c4_i32_3481 : BitVec 32 := 4#32
  let v3717 : BitVec 32 := Scalar.muli v3716 c4_i32_3481
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3718 : BitVec 32 := Scalar.addi v3717 v29
  let c1_i32_3485 : BitVec 32 := 1#32
  let v3719 : BitVec 32 := Scalar.muli v3718 c1_i32_3485
  let v3720 : BitVec 32 := Scalar.addi c0_i32_3486 v3719
  v3720.toNat
def k0_off13 (d0 : Dev nD) : Fin 2 → Nat :=
  let c3_i32_3677 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![3, v19.toNat]
def k0_off14 (d0 : Dev nD) : Fin 4 → Nat :=
  let c6_i32_3682 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3683 : BitVec 32 := 0#32
  let c0_i32_3684 : BitVec 32 := 0#32
  ![6, v19.toNat, 0, 0]
def k0_off15 (d0 : Dev nD) (c1_i32_3669 : BitVec 32) : Fin 4 → Nat :=
  let c6_i32_3685 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3849 : BitVec 32 := Scalar.addi v19 c1_i32_3669
  let c4_i32_3670 : BitVec 32 := 4#32
  let c0_i32_3671 : BitVec 32 := 0#32
  let v3850 : BitVec 1 := Scalar.cmpi .eq c4_i32_3670 c0_i32_3671
  let c1_i32_3672 : BitVec 32 := 1#32
  let v3851 : BitVec 32 := Scalar.select v3850 c1_i32_3672 c4_i32_3670
  let v3852 : BitVec 32 := Scalar.remsi v3849 v3851
  let c0_i32_3674 : BitVec 32 := 0#32
  let v3854 : BitVec 1 := Scalar.cmpi .slt v3852 c0_i32_3674
  let c0_i32_3675 : BitVec 32 := 0#32
  let v3855 : BitVec 1 := Scalar.cmpi .slt v3851 c0_i32_3675
  let v3856 : BitVec 1 := Scalar.xori v3854 v3855
  let c0_i32_3673 : BitVec 32 := 0#32
  let v3853 : BitVec 1 := Scalar.cmpi .ne v3852 c0_i32_3673
  let v3857 : BitVec 1 := Scalar.andi v3856 v3853
  let v3858 : BitVec 32 := Scalar.addi v3852 v3851
  let v3859 : BitVec 32 := Scalar.select v3857 v3858 v3852
  let c0_i32_3686 : BitVec 32 := 0#32
  let c0_i32_3687 : BitVec 32 := 0#32
  ![6, v3859.toNat, 0, 0]
def k0_dev39 (d0 : Dev nD) : Nat :=
  let c0_i32_3681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_3669 : BitVec 32 := 1#32
  let v3849 : BitVec 32 := Scalar.addi v19 c1_i32_3669
  let c4_i32_3670 : BitVec 32 := 4#32
  let c0_i32_3671 : BitVec 32 := 0#32
  let v3850 : BitVec 1 := Scalar.cmpi .eq c4_i32_3670 c0_i32_3671
  let c1_i32_3672 : BitVec 32 := 1#32
  let v3851 : BitVec 32 := Scalar.select v3850 c1_i32_3672 c4_i32_3670
  let v3852 : BitVec 32 := Scalar.remsi v3849 v3851
  let c0_i32_3674 : BitVec 32 := 0#32
  let v3854 : BitVec 1 := Scalar.cmpi .slt v3852 c0_i32_3674
  let c0_i32_3675 : BitVec 32 := 0#32
  let v3855 : BitVec 1 := Scalar.cmpi .slt v3851 c0_i32_3675
  let v3856 : BitVec 1 := Scalar.xori v3854 v3855
  let c0_i32_3673 : BitVec 32 := 0#32
  let v3853 : BitVec 1 := Scalar.cmpi .ne v3852 c0_i32_3673
  let v3857 : BitVec 1 := Scalar.andi v3856 v3853
  let v3858 : BitVec 32 := Scalar.addi v3852 v3851
  let v3859 : BitVec 32 := Scalar.select v3857 v3858 v3852
  let c4_i32_3676 : BitVec 32 := 4#32
  let v3860 : BitVec 32 := Scalar.muli v3859 c4_i32_3676
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3861 : BitVec 32 := Scalar.addi v3860 v29
  let c1_i32_3680 : BitVec 32 := 1#32
  let v3862 : BitVec 32 := Scalar.muli v3861 c1_i32_3680
  let v3863 : BitVec 32 := Scalar.addi c0_i32_3681 v3862
  v3863.toNat
def k0_dev40 (d0 : Dev nD) : Nat :=
  let c0_i32_3700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_3688 : BitVec 32 := 2#32
  let v3872 : BitVec 32 := Scalar.addi v19 c2_i32_3688
  let c4_i32_3689 : BitVec 32 := 4#32
  let c0_i32_3690 : BitVec 32 := 0#32
  let v3873 : BitVec 1 := Scalar.cmpi .eq c4_i32_3689 c0_i32_3690
  let c1_i32_3691 : BitVec 32 := 1#32
  let v3874 : BitVec 32 := Scalar.select v3873 c1_i32_3691 c4_i32_3689
  let v3875 : BitVec 32 := Scalar.remsi v3872 v3874
  let c0_i32_3693 : BitVec 32 := 0#32
  let v3877 : BitVec 1 := Scalar.cmpi .slt v3875 c0_i32_3693
  let c0_i32_3694 : BitVec 32 := 0#32
  let v3878 : BitVec 1 := Scalar.cmpi .slt v3874 c0_i32_3694
  let v3879 : BitVec 1 := Scalar.xori v3877 v3878
  let c0_i32_3692 : BitVec 32 := 0#32
  let v3876 : BitVec 1 := Scalar.cmpi .ne v3875 c0_i32_3692
  let v3880 : BitVec 1 := Scalar.andi v3879 v3876
  let v3881 : BitVec 32 := Scalar.addi v3875 v3874
  let v3882 : BitVec 32 := Scalar.select v3880 v3881 v3875
  let c4_i32_3695 : BitVec 32 := 4#32
  let v3883 : BitVec 32 := Scalar.muli v3882 c4_i32_3695
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3884 : BitVec 32 := Scalar.addi v3883 v29
  let c1_i32_3699 : BitVec 32 := 1#32
  let v3885 : BitVec 32 := Scalar.muli v3884 c1_i32_3699
  let v3886 : BitVec 32 := Scalar.addi c0_i32_3700 v3885
  v3886.toNat
def k0_dev41 (d0 : Dev nD) : Nat :=
  let c0_i32_3719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3707 : BitVec 32 := 3#32
  let v3895 : BitVec 32 := Scalar.addi v19 c3_i32_3707
  let c4_i32_3708 : BitVec 32 := 4#32
  let c0_i32_3709 : BitVec 32 := 0#32
  let v3896 : BitVec 1 := Scalar.cmpi .eq c4_i32_3708 c0_i32_3709
  let c1_i32_3710 : BitVec 32 := 1#32
  let v3897 : BitVec 32 := Scalar.select v3896 c1_i32_3710 c4_i32_3708
  let v3898 : BitVec 32 := Scalar.remsi v3895 v3897
  let c0_i32_3712 : BitVec 32 := 0#32
  let v3900 : BitVec 1 := Scalar.cmpi .slt v3898 c0_i32_3712
  let c0_i32_3713 : BitVec 32 := 0#32
  let v3901 : BitVec 1 := Scalar.cmpi .slt v3897 c0_i32_3713
  let v3902 : BitVec 1 := Scalar.xori v3900 v3901
  let c0_i32_3711 : BitVec 32 := 0#32
  let v3899 : BitVec 1 := Scalar.cmpi .ne v3898 c0_i32_3711
  let v3903 : BitVec 1 := Scalar.andi v3902 v3899
  let v3904 : BitVec 32 := Scalar.addi v3898 v3897
  let v3905 : BitVec 32 := Scalar.select v3903 v3904 v3898
  let c4_i32_3714 : BitVec 32 := 4#32
  let v3906 : BitVec 32 := Scalar.muli v3905 c4_i32_3714
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3907 : BitVec 32 := Scalar.addi v3906 v29
  let c1_i32_3718 : BitVec 32 := 1#32
  let v3908 : BitVec 32 := Scalar.muli v3907 c1_i32_3718
  let v3909 : BitVec 32 := Scalar.addi c0_i32_3719 v3908
  v3909.toNat
def k0_off16 (d0 : Dev nD) (c1_i32_3726 : BitVec 32) : Fin 2 → Nat :=
  let c0_i32_3734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3918 : BitVec 32 := Scalar.addi v19 c1_i32_3726
  let c4_i32_3727 : BitVec 32 := 4#32
  let c0_i32_3728 : BitVec 32 := 0#32
  let v3919 : BitVec 1 := Scalar.cmpi .eq c4_i32_3727 c0_i32_3728
  let c1_i32_3729 : BitVec 32 := 1#32
  let v3920 : BitVec 32 := Scalar.select v3919 c1_i32_3729 c4_i32_3727
  let v3921 : BitVec 32 := Scalar.remsi v3918 v3920
  let c0_i32_3731 : BitVec 32 := 0#32
  let v3923 : BitVec 1 := Scalar.cmpi .slt v3921 c0_i32_3731
  let c0_i32_3732 : BitVec 32 := 0#32
  let v3924 : BitVec 1 := Scalar.cmpi .slt v3920 c0_i32_3732
  let v3925 : BitVec 1 := Scalar.xori v3923 v3924
  let c0_i32_3730 : BitVec 32 := 0#32
  let v3922 : BitVec 1 := Scalar.cmpi .ne v3921 c0_i32_3730
  let v3926 : BitVec 1 := Scalar.andi v3925 v3922
  let v3927 : BitVec 32 := Scalar.addi v3921 v3920
  let v3928 : BitVec 32 := Scalar.select v3926 v3927 v3921
  ![0, v3928.toNat]
def k0_off17 (d0 : Dev nD) : Fin 4 → Nat :=
  let c0_3783 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3975 : Index := Scalar.indexCast v19
  let c0_3784 : Index := 0#32
  let c0_3785 : Index := 0#32
  ![0, v3975.toNat, 0, 0]
def k0_off18 (d0 : Dev nD) (c1_i32_3786 : BitVec 32) : Fin 4 → Nat :=
  let c0_3793 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3978 : BitVec 32 := Scalar.addi v19 c1_i32_3786
  let c4_i32_3787 : BitVec 32 := 4#32
  let c0_i32_3788 : BitVec 32 := 0#32
  let v3979 : BitVec 1 := Scalar.cmpi .eq c4_i32_3787 c0_i32_3788
  let c1_i32_3789 : BitVec 32 := 1#32
  let v3980 : BitVec 32 := Scalar.select v3979 c1_i32_3789 c4_i32_3787
  let v3981 : BitVec 32 := Scalar.remsi v3978 v3980
  let c0_i32_3791 : BitVec 32 := 0#32
  let v3983 : BitVec 1 := Scalar.cmpi .slt v3981 c0_i32_3791
  let c0_i32_3792 : BitVec 32 := 0#32
  let v3984 : BitVec 1 := Scalar.cmpi .slt v3980 c0_i32_3792
  let v3985 : BitVec 1 := Scalar.xori v3983 v3984
  let c0_i32_3790 : BitVec 32 := 0#32
  let v3982 : BitVec 1 := Scalar.cmpi .ne v3981 c0_i32_3790
  let v3986 : BitVec 1 := Scalar.andi v3985 v3982
  let v3987 : BitVec 32 := Scalar.addi v3981 v3980
  let v3988 : BitVec 32 := Scalar.select v3986 v3987 v3981
  let v3989 : Index := Scalar.indexCast v3988
  let c0_3794 : Index := 0#32
  let c0_3795 : Index := 0#32
  ![0, v3989.toNat, 0, 0]
def k0_off19 (d0 : Dev nD) : Fin 4 → Nat :=
  let c1_3818 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4024 : Index := Scalar.indexCast v19
  let c0_3819 : Index := 0#32
  let c0_3820 : Index := 0#32
  ![1, v4024.toNat, 0, 0]
def k0_off20 (d0 : Dev nD) (c1_i32_3821 : BitVec 32) : Fin 4 → Nat :=
  let c1_3828 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4027 : BitVec 32 := Scalar.addi v19 c1_i32_3821
  let c4_i32_3822 : BitVec 32 := 4#32
  let c0_i32_3823 : BitVec 32 := 0#32
  let v4028 : BitVec 1 := Scalar.cmpi .eq c4_i32_3822 c0_i32_3823
  let c1_i32_3824 : BitVec 32 := 1#32
  let v4029 : BitVec 32 := Scalar.select v4028 c1_i32_3824 c4_i32_3822
  let v4030 : BitVec 32 := Scalar.remsi v4027 v4029
  let c0_i32_3826 : BitVec 32 := 0#32
  let v4032 : BitVec 1 := Scalar.cmpi .slt v4030 c0_i32_3826
  let c0_i32_3827 : BitVec 32 := 0#32
  let v4033 : BitVec 1 := Scalar.cmpi .slt v4029 c0_i32_3827
  let v4034 : BitVec 1 := Scalar.xori v4032 v4033
  let c0_i32_3825 : BitVec 32 := 0#32
  let v4031 : BitVec 1 := Scalar.cmpi .ne v4030 c0_i32_3825
  let v4035 : BitVec 1 := Scalar.andi v4034 v4031
  let v4036 : BitVec 32 := Scalar.addi v4030 v4029
  let v4037 : BitVec 32 := Scalar.select v4035 v4036 v4030
  let v4038 : Index := Scalar.indexCast v4037
  let c0_3829 : Index := 0#32
  let c0_3830 : Index := 0#32
  ![1, v4038.toNat, 0, 0]
def k0_off21 (d0 : Dev nD) (c1_i32_3853 : BitVec 32) : Fin 2 → Nat :=
  let c1_i32_3861 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4073 : BitVec 32 := Scalar.addi v19 c1_i32_3853
  let c4_i32_3854 : BitVec 32 := 4#32
  let c0_i32_3855 : BitVec 32 := 0#32
  let v4074 : BitVec 1 := Scalar.cmpi .eq c4_i32_3854 c0_i32_3855
  let c1_i32_3856 : BitVec 32 := 1#32
  let v4075 : BitVec 32 := Scalar.select v4074 c1_i32_3856 c4_i32_3854
  let v4076 : BitVec 32 := Scalar.remsi v4073 v4075
  let c0_i32_3858 : BitVec 32 := 0#32
  let v4078 : BitVec 1 := Scalar.cmpi .slt v4076 c0_i32_3858
  let c0_i32_3859 : BitVec 32 := 0#32
  let v4079 : BitVec 1 := Scalar.cmpi .slt v4075 c0_i32_3859
  let v4080 : BitVec 1 := Scalar.xori v4078 v4079
  let c0_i32_3857 : BitVec 32 := 0#32
  let v4077 : BitVec 1 := Scalar.cmpi .ne v4076 c0_i32_3857
  let v4081 : BitVec 1 := Scalar.andi v4080 v4077
  let v4082 : BitVec 32 := Scalar.addi v4076 v4075
  let v4083 : BitVec 32 := Scalar.select v4081 v4082 v4076
  ![1, v4083.toNat]
def k0_off22 (d0 : Dev nD) : Fin 4 → Nat :=
  let c2_3910 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4130 : Index := Scalar.indexCast v19
  let c0_3911 : Index := 0#32
  let c0_3912 : Index := 0#32
  ![2, v4130.toNat, 0, 0]
def k0_off23 (d0 : Dev nD) (c1_i32_3913 : BitVec 32) : Fin 4 → Nat :=
  let c2_3920 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4133 : BitVec 32 := Scalar.addi v19 c1_i32_3913
  let c4_i32_3914 : BitVec 32 := 4#32
  let c0_i32_3915 : BitVec 32 := 0#32
  let v4134 : BitVec 1 := Scalar.cmpi .eq c4_i32_3914 c0_i32_3915
  let c1_i32_3916 : BitVec 32 := 1#32
  let v4135 : BitVec 32 := Scalar.select v4134 c1_i32_3916 c4_i32_3914
  let v4136 : BitVec 32 := Scalar.remsi v4133 v4135
  let c0_i32_3918 : BitVec 32 := 0#32
  let v4138 : BitVec 1 := Scalar.cmpi .slt v4136 c0_i32_3918
  let c0_i32_3919 : BitVec 32 := 0#32
  let v4139 : BitVec 1 := Scalar.cmpi .slt v4135 c0_i32_3919
  let v4140 : BitVec 1 := Scalar.xori v4138 v4139
  let c0_i32_3917 : BitVec 32 := 0#32
  let v4137 : BitVec 1 := Scalar.cmpi .ne v4136 c0_i32_3917
  let v4141 : BitVec 1 := Scalar.andi v4140 v4137
  let v4142 : BitVec 32 := Scalar.addi v4136 v4135
  let v4143 : BitVec 32 := Scalar.select v4141 v4142 v4136
  let v4144 : Index := Scalar.indexCast v4143
  let c0_3921 : Index := 0#32
  let c0_3922 : Index := 0#32
  ![2, v4144.toNat, 0, 0]
def k0_off24 (d0 : Dev nD) : Fin 4 → Nat :=
  let c3_3945 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4179 : Index := Scalar.indexCast v19
  let c0_3946 : Index := 0#32
  let c0_3947 : Index := 0#32
  ![3, v4179.toNat, 0, 0]
def k0_off25 (d0 : Dev nD) (c1_i32_3948 : BitVec 32) : Fin 4 → Nat :=
  let c3_3955 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4182 : BitVec 32 := Scalar.addi v19 c1_i32_3948
  let c4_i32_3949 : BitVec 32 := 4#32
  let c0_i32_3950 : BitVec 32 := 0#32
  let v4183 : BitVec 1 := Scalar.cmpi .eq c4_i32_3949 c0_i32_3950
  let c1_i32_3951 : BitVec 32 := 1#32
  let v4184 : BitVec 32 := Scalar.select v4183 c1_i32_3951 c4_i32_3949
  let v4185 : BitVec 32 := Scalar.remsi v4182 v4184
  let c0_i32_3953 : BitVec 32 := 0#32
  let v4187 : BitVec 1 := Scalar.cmpi .slt v4185 c0_i32_3953
  let c0_i32_3954 : BitVec 32 := 0#32
  let v4188 : BitVec 1 := Scalar.cmpi .slt v4184 c0_i32_3954
  let v4189 : BitVec 1 := Scalar.xori v4187 v4188
  let c0_i32_3952 : BitVec 32 := 0#32
  let v4186 : BitVec 1 := Scalar.cmpi .ne v4185 c0_i32_3952
  let v4190 : BitVec 1 := Scalar.andi v4189 v4186
  let v4191 : BitVec 32 := Scalar.addi v4185 v4184
  let v4192 : BitVec 32 := Scalar.select v4190 v4191 v4185
  let v4193 : Index := Scalar.indexCast v4192
  let c0_3956 : Index := 0#32
  let c0_3957 : Index := 0#32
  ![3, v4193.toNat, 0, 0]
def k0_off26 (d0 : Dev nD) (c1_i32_3980 : BitVec 32) : Fin 2 → Nat :=
  let c2_i32_3988 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4228 : BitVec 32 := Scalar.addi v19 c1_i32_3980
  let c4_i32_3981 : BitVec 32 := 4#32
  let c0_i32_3982 : BitVec 32 := 0#32
  let v4229 : BitVec 1 := Scalar.cmpi .eq c4_i32_3981 c0_i32_3982
  let c1_i32_3983 : BitVec 32 := 1#32
  let v4230 : BitVec 32 := Scalar.select v4229 c1_i32_3983 c4_i32_3981
  let v4231 : BitVec 32 := Scalar.remsi v4228 v4230
  let c0_i32_3985 : BitVec 32 := 0#32
  let v4233 : BitVec 1 := Scalar.cmpi .slt v4231 c0_i32_3985
  let c0_i32_3986 : BitVec 32 := 0#32
  let v4234 : BitVec 1 := Scalar.cmpi .slt v4230 c0_i32_3986
  let v4235 : BitVec 1 := Scalar.xori v4233 v4234
  let c0_i32_3984 : BitVec 32 := 0#32
  let v4232 : BitVec 1 := Scalar.cmpi .ne v4231 c0_i32_3984
  let v4236 : BitVec 1 := Scalar.andi v4235 v4232
  let v4237 : BitVec 32 := Scalar.addi v4231 v4230
  let v4238 : BitVec 32 := Scalar.select v4236 v4237 v4231
  ![2, v4238.toNat]
def k0_off27 (d0 : Dev nD) : Fin 4 → Nat :=
  let c4_4037 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4285 : Index := Scalar.indexCast v19
  let c0_4038 : Index := 0#32
  let c0_4039 : Index := 0#32
  ![4, v4285.toNat, 0, 0]
def k0_off28 (d0 : Dev nD) (c1_i32_4040 : BitVec 32) : Fin 4 → Nat :=
  let c4_4047 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4288 : BitVec 32 := Scalar.addi v19 c1_i32_4040
  let c4_i32_4041 : BitVec 32 := 4#32
  let c0_i32_4042 : BitVec 32 := 0#32
  let v4289 : BitVec 1 := Scalar.cmpi .eq c4_i32_4041 c0_i32_4042
  let c1_i32_4043 : BitVec 32 := 1#32
  let v4290 : BitVec 32 := Scalar.select v4289 c1_i32_4043 c4_i32_4041
  let v4291 : BitVec 32 := Scalar.remsi v4288 v4290
  let c0_i32_4045 : BitVec 32 := 0#32
  let v4293 : BitVec 1 := Scalar.cmpi .slt v4291 c0_i32_4045
  let c0_i32_4046 : BitVec 32 := 0#32
  let v4294 : BitVec 1 := Scalar.cmpi .slt v4290 c0_i32_4046
  let v4295 : BitVec 1 := Scalar.xori v4293 v4294
  let c0_i32_4044 : BitVec 32 := 0#32
  let v4292 : BitVec 1 := Scalar.cmpi .ne v4291 c0_i32_4044
  let v4296 : BitVec 1 := Scalar.andi v4295 v4292
  let v4297 : BitVec 32 := Scalar.addi v4291 v4290
  let v4298 : BitVec 32 := Scalar.select v4296 v4297 v4291
  let v4299 : Index := Scalar.indexCast v4298
  let c0_4048 : Index := 0#32
  let c0_4049 : Index := 0#32
  ![4, v4299.toNat, 0, 0]
def k0_off29 (d0 : Dev nD) : Fin 4 → Nat :=
  let c5_4072 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4334 : Index := Scalar.indexCast v19
  let c0_4073 : Index := 0#32
  let c0_4074 : Index := 0#32
  ![5, v4334.toNat, 0, 0]
def k0_off30 (d0 : Dev nD) (c1_i32_4075 : BitVec 32) : Fin 4 → Nat :=
  let c5_4082 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4337 : BitVec 32 := Scalar.addi v19 c1_i32_4075
  let c4_i32_4076 : BitVec 32 := 4#32
  let c0_i32_4077 : BitVec 32 := 0#32
  let v4338 : BitVec 1 := Scalar.cmpi .eq c4_i32_4076 c0_i32_4077
  let c1_i32_4078 : BitVec 32 := 1#32
  let v4339 : BitVec 32 := Scalar.select v4338 c1_i32_4078 c4_i32_4076
  let v4340 : BitVec 32 := Scalar.remsi v4337 v4339
  let c0_i32_4080 : BitVec 32 := 0#32
  let v4342 : BitVec 1 := Scalar.cmpi .slt v4340 c0_i32_4080
  let c0_i32_4081 : BitVec 32 := 0#32
  let v4343 : BitVec 1 := Scalar.cmpi .slt v4339 c0_i32_4081
  let v4344 : BitVec 1 := Scalar.xori v4342 v4343
  let c0_i32_4079 : BitVec 32 := 0#32
  let v4341 : BitVec 1 := Scalar.cmpi .ne v4340 c0_i32_4079
  let v4345 : BitVec 1 := Scalar.andi v4344 v4341
  let v4346 : BitVec 32 := Scalar.addi v4340 v4339
  let v4347 : BitVec 32 := Scalar.select v4345 v4346 v4340
  let v4348 : Index := Scalar.indexCast v4347
  let c0_4083 : Index := 0#32
  let c0_4084 : Index := 0#32
  ![5, v4348.toNat, 0, 0]
def k0_off31 (d0 : Dev nD) (c1_i32_4107 : BitVec 32) : Fin 2 → Nat :=
  let c3_i32_4115 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4383 : BitVec 32 := Scalar.addi v19 c1_i32_4107
  let c4_i32_4108 : BitVec 32 := 4#32
  let c0_i32_4109 : BitVec 32 := 0#32
  let v4384 : BitVec 1 := Scalar.cmpi .eq c4_i32_4108 c0_i32_4109
  let c1_i32_4110 : BitVec 32 := 1#32
  let v4385 : BitVec 32 := Scalar.select v4384 c1_i32_4110 c4_i32_4108
  let v4386 : BitVec 32 := Scalar.remsi v4383 v4385
  let c0_i32_4112 : BitVec 32 := 0#32
  let v4388 : BitVec 1 := Scalar.cmpi .slt v4386 c0_i32_4112
  let c0_i32_4113 : BitVec 32 := 0#32
  let v4389 : BitVec 1 := Scalar.cmpi .slt v4385 c0_i32_4113
  let v4390 : BitVec 1 := Scalar.xori v4388 v4389
  let c0_i32_4111 : BitVec 32 := 0#32
  let v4387 : BitVec 1 := Scalar.cmpi .ne v4386 c0_i32_4111
  let v4391 : BitVec 1 := Scalar.andi v4390 v4387
  let v4392 : BitVec 32 := Scalar.addi v4386 v4385
  let v4393 : BitVec 32 := Scalar.select v4391 v4392 v4386
  ![3, v4393.toNat]
def k0_off32 (d0 : Dev nD) : Fin 4 → Nat :=
  let c6_4164 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4440 : Index := Scalar.indexCast v19
  let c0_4165 : Index := 0#32
  let c0_4166 : Index := 0#32
  ![6, v4440.toNat, 0, 0]
def k0_off33 (d0 : Dev nD) (c1_i32_4167 : BitVec 32) : Fin 4 → Nat :=
  let c6_4174 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4443 : BitVec 32 := Scalar.addi v19 c1_i32_4167
  let c4_i32_4168 : BitVec 32 := 4#32
  let c0_i32_4169 : BitVec 32 := 0#32
  let v4444 : BitVec 1 := Scalar.cmpi .eq c4_i32_4168 c0_i32_4169
  let c1_i32_4170 : BitVec 32 := 1#32
  let v4445 : BitVec 32 := Scalar.select v4444 c1_i32_4170 c4_i32_4168
  let v4446 : BitVec 32 := Scalar.remsi v4443 v4445
  let c0_i32_4172 : BitVec 32 := 0#32
  let v4448 : BitVec 1 := Scalar.cmpi .slt v4446 c0_i32_4172
  let c0_i32_4173 : BitVec 32 := 0#32
  let v4449 : BitVec 1 := Scalar.cmpi .slt v4445 c0_i32_4173
  let v4450 : BitVec 1 := Scalar.xori v4448 v4449
  let c0_i32_4171 : BitVec 32 := 0#32
  let v4447 : BitVec 1 := Scalar.cmpi .ne v4446 c0_i32_4171
  let v4451 : BitVec 1 := Scalar.andi v4450 v4447
  let v4452 : BitVec 32 := Scalar.addi v4446 v4445
  let v4453 : BitVec 32 := Scalar.select v4451 v4452 v4446
  let v4454 : Index := Scalar.indexCast v4453
  let c0_4175 : Index := 0#32
  let c0_4176 : Index := 0#32
  ![6, v4454.toNat, 0, 0]
def k0_off34 (d0 : Dev nD) : Fin 4 → Nat :=
  let c7_4199 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4489 : Index := Scalar.indexCast v19
  let c0_4200 : Index := 0#32
  let c0_4201 : Index := 0#32
  ![7, v4489.toNat, 0, 0]
def k0_off35 (d0 : Dev nD) (c1_i32_4202 : BitVec 32) : Fin 4 → Nat :=
  let c7_4209 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4492 : BitVec 32 := Scalar.addi v19 c1_i32_4202
  let c4_i32_4203 : BitVec 32 := 4#32
  let c0_i32_4204 : BitVec 32 := 0#32
  let v4493 : BitVec 1 := Scalar.cmpi .eq c4_i32_4203 c0_i32_4204
  let c1_i32_4205 : BitVec 32 := 1#32
  let v4494 : BitVec 32 := Scalar.select v4493 c1_i32_4205 c4_i32_4203
  let v4495 : BitVec 32 := Scalar.remsi v4492 v4494
  let c0_i32_4207 : BitVec 32 := 0#32
  let v4497 : BitVec 1 := Scalar.cmpi .slt v4495 c0_i32_4207
  let c0_i32_4208 : BitVec 32 := 0#32
  let v4498 : BitVec 1 := Scalar.cmpi .slt v4494 c0_i32_4208
  let v4499 : BitVec 1 := Scalar.xori v4497 v4498
  let c0_i32_4206 : BitVec 32 := 0#32
  let v4496 : BitVec 1 := Scalar.cmpi .ne v4495 c0_i32_4206
  let v4500 : BitVec 1 := Scalar.andi v4499 v4496
  let v4501 : BitVec 32 := Scalar.addi v4495 v4494
  let v4502 : BitVec 32 := Scalar.select v4500 v4501 v4495
  let v4503 : Index := Scalar.indexCast v4502
  let c0_4210 : Index := 0#32
  let c0_4211 : Index := 0#32
  ![7, v4503.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x1024, .f32⟩
  | .hbm, ⟨2, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Struct.lean ====
/- The kernel's run as a program of loops.

   The printed body is straight-line: every loop of the source is unrolled. Here the same effects are
   written with their loops, over the column chunk `q`, the plane `z` and the pair of chunks `j`, and
   `body_eq` states that the printed body is this program. -/
module

public import proofs.«01_k».proof.Proof.Gen.KernelIdeal
public import proofs.«01_k».proof.Proof.Gen.KernelIdeal.Skeleton

@[expose] public section

noncomputable section

namespace Cert.KernelIdeal.Rs

open Idealize.ShloMosaic Idealize.ShloMosaic.TcCoe Idealize.SL.Sem Cert.KernelIdeal Cert.KernelIdeal.Gen

variable {F : FTy → Type} [FloatOps F]

/-- A program of the kernel's effects. -/
abbrev Pr (F : FTy → Type) [FloatOps F] := Prog (TpuEff nD τ sig (Elt F) Λ₀ .tc) PUnit

/-- The loop over a list. -/
def forL {α : Type} : List α → (α → Pr F) → Pr F
  | [], _ => .ret ⟨⟩
  | a :: l, f => (f a).bind fun _ => forL l f

/-- The buffers and semaphores the body is given. -/
structure Env where
  a : Memref sig .tc .vmem S1024x512 .f32
  b : Memref sig .tc .vmem S512x1024 .f32
  o : Memref sig .tc .vmem S64x1024 .f32
  sd : Memref sig .tc .vmem S8x4x64x128 .f32
  sr : Memref sig .tc .vmem S8x4x64x128 .f32
  sc : Memref sig .tc .vmem S8x4x64x128 .f32
  rd : Memref sig .tc .vmem S8x4x64x128 .f32
  rr : Memref sig .tc .vmem S8x4x64x128 .f32
  rc : Memref sig .tc .vmem S8x4x64x128 .f32
  ps : Memref sig .tc .vmem S8x4x64x128 .f32
  zv : Memref sig .tc .vmem S8x4x64x128 .f32
  sdS : DmaSems sig S8
  sdR : DmaSems sig S8
  srS : DmaSems sig S8
  srR : DmaSems sig S8
  scS : DmaSems sig S8
  scR : DmaSems sig S8
  zS : DmaSems sig S4x3
  zR : DmaSems sig S4x4

/-- The chunks, the planes, the pairs and the plane distances, in the order the loops run. -/
abbrev qs : List (Fin 8) := [0, 1, 2, 3, 4, 5, 6, 7]
abbrev zs : List (Fin 4) := [0, 1, 2, 3]
abbrev js : List (Fin 4) := [0, 1, 2, 3]
abbrev ds : List (Fin 3) := [0, 1, 2]
/-- The two chunks of a pair. -/
def pair (j : Fin 4) : List (Fin 8) := match j with
  | 0 => [0, 1] | 1 => [2, 3] | 2 => [4, 5] | 3 => [6, 7]

/-! ## Rectangles -/

theorem slot_inb (q : Fin 8) (z : Fin 4) : ∀ a, (![q.val, z.val, 0, 0] : Fin 4 → Nat) a + S1x1x64x128.size a ≤ S8x4x64x128.size a := by
  revert q z; decide
theorem slab_inb (q : Fin 8) : ∀ a, (![q.val, 0, 0, 0] : Fin 4 → Nat) a + S1x4x64x128.size a ≤ S8x4x64x128.size a := by
  revert q; decide
theorem twin_inb (j : Fin 4) : ∀ a, (![2 * j.val, 0, 0, 0] : Fin 4 → Nat) a + S2x1x64x128.size a ≤ S8x4x64x128.size a := by
  revert j; decide
theorem bcol_inb (q : Fin 8) : ∀ a, (![0, 128 * q.val] : Fin 2 → Nat) a + S512x128.size a ≤ S512x1024.size a := by
  revert q; decide
theorem ocol_inb (q : Fin 8) : ∀ a, (![0, 128 * q.val] : Fin 2 → Nat) a + S64x128.size a ≤ S64x1024.size a := by
  revert q; decide
theorem sem8_inb (q : Fin 8) : ∀ a, (![q.val] : Fin 1 → Nat) a + S1.size a ≤ S8.size a := by
  revert q; decide
theorem zS_inb (j : Fin 4) (e : Fin 3) : ∀ a, (![j.val, e.val] : Fin 2 → Nat) a + S1x1.size a ≤ S4x3.size a := by
  revert j e; decide

/-- Slot `(q, z)` of a scratch buffer. -/
abbrev slotR (q : Fin 8) (z : Fin 4) : Rect S8x4x64x128 := Rect.unit (s := S8x4x64x128) ![q.val, z.val, 0, 0] S1x1x64x128.size (slot_inb q z)
/-- Chunk `q` of the local block of `B`. -/
abbrev bR (q : Fin 8) : Rect S512x1024 := Rect.unit (s := S512x1024) ![0, 128 * q.val] S512x128.size (bcol_inb q)
/-- Chunk `q` of the result. -/
abbrev oR (q : Fin 8) : Rect S64x1024 := Rect.unit (s := S64x1024) ![0, 128 * q.val] S64x128.size (ocol_inb q)

/-- The first row and column of the block of `A` that belongs to the core `w` places around the plane
    of `z`. -/
def aOff (w z : Fin 4) (d : Dev nD) : Fin 2 → Nat := match w with
  | 0 => k0_off3 d (BitVec.ofNat 32 (256 * z.val))
  | 1 => k0_off1 d (BitVec.ofNat 32 (256 * z.val)) 1#32
  | 2 => k0_off1 d (BitVec.ofNat 32 (256 * z.val)) 2#32
  | 3 => k0_off2 d (BitVec.ofNat 32 (256 * z.val))

theorem aOff_inb (w z : Fin 4) (d : Dev nD) : ∀ a, aOff w z d a + S64x512.size a ≤ S1024x512.size a := by
  match w with
  | 0 => exact k0_off3_inb d z
  | 1 => exact k0_off1_inb d z 0
  | 2 => exact k0_off1_inb d z 1
  | 3 => exact k0_off2_inb d z

abbrev aR (w z : Fin 4) (d : Dev nD) : Rect S1024x512 := Rect.unit (s := S1024x512) (aOff w z d) S64x512.size (aOff_inb w z d)

/-- The slot a copy along the planes reads, at distance `e + 1`; -/
def zsrcOff (j : Fin 4) (e : Fin 3) (d : Dev nD) : Fin 4 → Nat := match j with
  | 0 => k0_off6 d (BitVec.ofNat 32 (1 + e.val))
  | 1 => k0_off9 d (BitVec.ofNat 32 (1 + e.val))
  | 2 => k0_off12 d (BitVec.ofNat 32 (1 + e.val))
  | 3 => k0_off15 d (BitVec.ofNat 32 (1 + e.val))
theorem zsrcOff_inb (j : Fin 4) (e : Fin 3) (d : Dev nD) : ∀ a, zsrcOff j e d a + S2x1x64x128.size a ≤ S8x4x64x128.size a := by
  match j with
  | 0 => exact k0_off6_inb d e
  | 1 => exact k0_off9_inb d e
  | 2 => exact k0_off12_inb d e
  | 3 => exact k0_off15_inb d e

/-- the slot it writes on the peer; -/
def zdstOff (j : Fin 4) (d : Dev nD) : Fin 4 → Nat := match j with
  | 0 => k0_off5 d | 1 => k0_off8 d | 2 => k0_off11 d | 3 => k0_off14 d
theorem zdstOff_inb (j : Fin 4) (d : Dev nD) : ∀ a, zdstOff j d a + S2x1x64x128.size a ≤ S8x4x64x128.size a := by
  match j with
  | 0 => exact k0_off5_inb d
  | 1 => exact k0_off8_inb d
  | 2 => exact k0_off11_inb d
  | 3 => exact k0_off14_inb d

/-- the semaphore it completes on there; -/
def zRsOff (j : Fin 4) (d : Dev nD) : Fin 2 → Nat := match j with
  | 0 => k0_off4 d | 1 => k0_off7 d | 2 => k0_off10 d | 3 => k0_off13 d
theorem zRsOff_inb (j : Fin 4) (d : Dev nD) : ∀ a, zRsOff j d a + S1x1.size a ≤ S4x4.size a := by
  match j with
  | 0 => exact k0_off4_inb d
  | 1 => exact k0_off7_inb d
  | 2 => exact k0_off10_inb d
  | 3 => exact k0_off13_inb d

/-- the semaphore waited on for what arrives from distance `e + 1`. -/
def zRwOff (j : Fin 4) (e : Fin 3) (d : Dev nD) : Fin 2 → Nat := match j with
  | 0 => k0_off16 d (BitVec.ofNat 32 (1 + e.val))
  | 1 => k0_off21 d (BitVec.ofNat 32 (1 + e.val))
  | 2 => k0_off26 d (BitVec.ofNat 32 (1 + e.val))
  | 3 => k0_off31 d (BitVec.ofNat 32 (1 + e.val))
theorem zRwOff_inb (j : Fin 4) (e : Fin 3) (d : Dev nD) : ∀ a, zRwOff j e d a + S1x1.size a ≤ S4x4.size a := by
  match j with
  | 0 => exact k0_off16_inb d e
  | 1 => exact k0_off21_inb d e
  | 2 => exact k0_off26_inb d e
  | 3 => exact k0_off31_inb d e

/-- Chunk `q` of the core's own plane in the partial sums, -/
def psOff (q : Fin 8) (d : Dev nD) : Fin 4 → Nat := match q with
  | 0 => k0_off17 d | 1 => k0_off19 d | 2 => k0_off22 d | 3 => k0_off24 d
  | 4 => k0_off27 d | 5 => k0_off29 d | 6 => k0_off32 d | 7 => k0_off34 d
theorem psOff_inb (q : Fin 8) (d : Dev nD) : ∀ a, psOff q d a + S1x1x64x128.size a ≤ S8x4x64x128.size a := by
  match q with
  | 0 => exact k0_off17_inb d
  | 1 => exact k0_off19_inb d
  | 2 => exact k0_off22_inb d
  | 3 => exact k0_off24_inb d
  | 4 => exact k0_off27_inb d
  | 5 => exact k0_off29_inb d
  | 6 => exact k0_off32_inb d
  | 7 => exact k0_off34_inb d

/-- and of the plane at distance `e + 1` in what arrived. -/
def zvOff (q : Fin 8) (e : Fin 3) (d : Dev nD) : Fin 4 → Nat := match q with
  | 0 => k0_off18 d (BitVec.ofNat 32 (1 + e.val))
  | 1 => k0_off20 d (BitVec.ofNat 32 (1 + e.val))
  | 2 => k0_off23 d (BitVec.ofNat 32 (1 + e.val))
  | 3 => k0_off25 d (BitVec.ofNat 32 (1 + e.val))
  | 4 => k0_off28 d (BitVec.ofNat 32 (1 + e.val))
  | 5 => k0_off30 d (BitVec.ofNat 32 (1 + e.val))
  | 6 => k0_off33 d (BitVec.ofNat 32 (1 + e.val))
  | 7 => k0_off35 d (BitVec.ofNat 32 (1 + e.val))
theorem zvOff_inb (q : Fin 8) (e : Fin 3) (d : Dev nD) : ∀ a, zvOff q e d a + S1x1x64x128.size a ≤ S8x4x64x128.size a := by
  match q with
  | 0 => exact k0_off18_inb d e
  | 1 => exact k0_off20_inb d e
  | 2 => exact k0_off23_inb d e
  | 3 => exact k0_off25_inb d e
  | 4 => exact k0_off28_inb d e
  | 5 => exact k0_off30_inb d e
  | 6 => exact k0_off33_inb d e
  | 7 => exact k0_off35_inb d e

/-! ## Peers -/

/-- The core a relayed chunk goes to, -/
def tgtR (q : Fin 8) (d : Dev nD) : Dev nD := match q with
  | 0 => ⟨k0_dev6 d, k0_dev6_lt d⟩ | 1 => ⟨k0_dev7 d, k0_dev7_lt d⟩ | 2 => ⟨k0_dev8 d, k0_dev8_lt d⟩ | 3 => ⟨k0_dev9 d, k0_dev9_lt d⟩
  | 4 => ⟨k0_dev10 d, k0_dev10_lt d⟩ | 5 => ⟨k0_dev11 d, k0_dev11_lt d⟩ | 6 => ⟨k0_dev12 d, k0_dev12_lt d⟩ | 7 => ⟨k0_dev13 d, k0_dev13_lt d⟩
/-- a combined one, -/
def tgtC (q : Fin 8) (d : Dev nD) : Dev nD := match q with
  | 0 => ⟨k0_dev14 d, k0_dev14_lt d⟩ | 1 => ⟨k0_dev15 d, k0_dev15_lt d⟩ | 2 => ⟨k0_dev18 d, k0_dev18_lt d⟩ | 3 => ⟨k0_dev19 d, k0_dev19_lt d⟩
  | 4 => ⟨k0_dev22 d, k0_dev22_lt d⟩ | 5 => ⟨k0_dev23 d, k0_dev23_lt d⟩ | 6 => ⟨k0_dev26 d, k0_dev26_lt d⟩ | 7 => ⟨k0_dev27 d, k0_dev27_lt d⟩
/-- a direct one, -/
def tgtD (q : Fin 8) (d : Dev nD) : Dev nD := match q with
  | 0 => ⟨k0_dev16 d, k0_dev16_lt d⟩ | 1 => ⟨k0_dev17 d, k0_dev17_lt d⟩ | 2 => ⟨k0_dev20 d, k0_dev20_lt d⟩ | 3 => ⟨k0_dev21 d, k0_dev21_lt d⟩
  | 4 => ⟨k0_dev24 d, k0_dev24_lt d⟩ | 5 => ⟨k0_dev25 d, k0_dev25_lt d⟩ | 6 => ⟨k0_dev28 d, k0_dev28_lt d⟩ | 7 => ⟨k0_dev29 d, k0_dev29_lt d⟩
/-- and a pair's partial sums at plane distance `e + 1`. -/
def tgtZ (j : Fin 4) (e : Fin 3) (d : Dev nD) : Dev nD := match j, e with
  | 0, 0 => ⟨k0_dev30 d, k0_dev30_lt d⟩ | 0, 1 => ⟨k0_dev31 d, k0_dev31_lt d⟩ | 0, 2 => ⟨k0_dev32 d, k0_dev32_lt d⟩
  | 1, 0 => ⟨k0_dev33 d, k0_dev33_lt d⟩ | 1, 1 => ⟨k0_dev34 d, k0_dev34_lt d⟩ | 1, 2 => ⟨k0_dev35 d, k0_dev35_lt d⟩
  | 2, 0 => ⟨k0_dev36 d, k0_dev36_lt d⟩ | 2, 1 => ⟨k0_dev37 d, k0_dev37_lt d⟩ | 2, 2 => ⟨k0_dev38 d, k0_dev38_lt d⟩
  | 3, 0 => ⟨k0_dev39 d, k0_dev39_lt d⟩ | 3, 1 => ⟨k0_dev40 d, k0_dev40_lt d⟩ | 3, 2 => ⟨k0_dev41 d, k0_dev41_lt d⟩
/-- The five peers the entry barrier signals. -/
def tgtB (i : Fin 5) (d : Dev nD) : Dev nD := match i with
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩

/-! ## Views and semaphores of the copies -/

/-- Slab `q` of a scratch buffer: chunk `q` of every plane. -/
abbrev slab (M : Memref sig .tc .vmem S8x4x64x128 .f32) (q : Fin 8) : Memref sig .tc .vmem S4x64x128 .f32 :=
  (M.slice (Rect.unit (s := S8x4x64x128) ![q.val, 0, 0, 0] S1x4x64x128.size (slab_inb q)) (fun _ => rfl)).squeeze S4x64x128 squeezes_S1x4x64x128_S4x64x128
/-- Two consecutive chunks of one plane. -/
abbrev twin (M : Memref sig .tc .vmem S8x4x64x128 .f32) (off : Fin 4 → Nat)
    (h : ∀ a, off a + S2x1x64x128.size a ≤ S8x4x64x128.size a) : Memref sig .tc .vmem S2x64x128 .f32 :=
  (M.slice (Rect.unit (s := S8x4x64x128) off S2x1x64x128.size h) (fun _ => rfl)).squeeze S2x64x128 squeezes_S2x1x64x128_S2x64x128
abbrev sem8 (S : DmaSems sig S8) (q : Fin 8) : DmaSem sig :=
  ((S.slice (Rect.unit (s := S8) ![q.val] S1.size (sem8_inb q))).squeeze S_ squeezes_S1_S_).sem
abbrev semZS (S : DmaSems sig S4x3) (j : Fin 4) (e : Fin 3) : DmaSem sig :=
  ((S.slice (Rect.unit (s := S4x3) ![j.val, e.val] S1x1.size (zS_inb j e))).squeeze S_ squeezes_S1x1_S_).sem
abbrev semZR (S : DmaSems sig S4x4) (off : Fin 2 → Nat) (h : ∀ a, off a + S1x1.size a ≤ S4x4.size a) : DmaSem sig :=
  ((S.slice (Rect.unit (s := S4x4) off S1x1.size h)).squeeze S_ squeezes_S1x1_S_).sem
/-- The entry barrier's semaphore. -/
abbrev barS : Sem sig := (SemArray.scalar (sig.barrier 0 rfl) : Sems sig S_).sem

/-! ## The steps -/

variable (E : Env) (d : Dev nD)

/-- One block product into a slot: the rows of `A` of the core `w` places around plane `z`, times chunk
    `q` of `B`. -/
def part (M : Memref sig .tc .vmem S8x4x64x128 .f32) (w : Fin 4) (q : Fin 8) (z : Fin 4) : Pr F :=
  .op (.load E.a (aR w z d).toLoadRect (View.loadsAt_vmem h_S64x512)) fun va =>
  .op (.load E.b (bR q).toLoadRect (View.loadsAt_vmem h_S512x128)) fun vb =>
  .op (.load M (slotR q z).toLoadRect (View.loadsAt_vmem h_S1x1x64x128)) fun _ =>
  .op (.store M (slotR q z) (k0_pay1 va vb) Finset.univ (View.stores_vmem_bits_univ h_S1x1x64x128 rfl) (.inl rfl)) .ret

/-- The relayed chunk added into the combined one. -/
def addC (q : Fin 8) (z : Fin 4) : Pr F :=
  .op (.load E.sc (slotR q z).toLoadRect (View.loadsAt_vmem h_S1x1x64x128)) fun v =>
  .op (.load E.rr (slotR q z).toLoadRect (View.loadsAt_vmem h_S1x1x64x128)) fun v' =>
  .op (.load E.sc (slotR q z).toLoadRect (View.loadsAt_vmem h_S1x1x64x128)) fun _ =>
  .op (.store E.sc (slotR q z) (k0_pay81 v v') Finset.univ (View.stores_vmem_bits_univ h_S1x1x64x128 rfl) (.inl rfl)) .ret

/-- The direct and the combined chunk added into the partial sum. -/
def addP (q : Fin 8) (z : Fin 4) : Pr F :=
  .op (.load E.ps (slotR q z).toLoadRect (View.loadsAt_vmem h_S1x1x64x128)) fun v =>
  .op (.load E.rd (slotR q z).toLoadRect (View.loadsAt_vmem h_S1x1x64x128)) fun v' =>
  .op (.load E.rc (slotR q z).toLoadRect (View.loadsAt_vmem h_S1x1x64x128)) fun v'' =>
  .op (.load E.ps (slotR q z).toLoadRect (View.loadsAt_vmem h_S1x1x64x128)) fun _ =>
  .op (.store E.ps (slotR q z) (k0_pay209 v v' v'') Finset.univ (View.stores_vmem_bits_univ h_S1x1x64x128 rfl) (.inl rfl)) .ret

/-- The result's chunk `q`: the own plane's partial sum and the three that arrived. -/
def outQ (q : Fin 8) : Pr F :=
  .op (.load E.ps (Rect.unit (s := S8x4x64x128) (psOff q d) S1x1x64x128.size (psOff_inb q d)).toLoadRect (View.loadsAt_vmem h_S1x1x64x128)) fun v =>
  .op (.load E.zv (Rect.unit (s := S8x4x64x128) (zvOff q 0 d) S1x1x64x128.size (zvOff_inb q 0 d)).toLoadRect (View.loadsAt_vmem h_S1x1x64x128)) fun v0 =>
  .op (.load E.zv (Rect.unit (s := S8x4x64x128) (zvOff q 1 d) S1x1x64x128.size (zvOff_inb q 1 d)).toLoadRect (View.loadsAt_vmem h_S1x1x64x128)) fun v1 =>
  .op (.load E.zv (Rect.unit (s := S8x4x64x128) (zvOff q 2 d) S1x1x64x128.size (zvOff_inb q 2 d)).toLoadRect (View.loadsAt_vmem h_S1x1x64x128)) fun v2 =>
  .op (.load E.o (oR q).toLoadRect (View.loadsAt_vmem h_S64x128)) fun _ =>
  .op (.store E.o (oR q) (k0_pay246 (k0_pay245 v v0) v1 v2) Finset.univ (View.stores_vmem_bits_univ h_S64x128 rfl) (.inl rfl)) .ret

/-- A slab sent to a peer. -/
def send (M M' : Memref sig .tc .vmem S8x4x64x128 .f32) (sS sR : DmaSems sig S8) (t : Fin 8 → Dev nD → Dev nD) (q : Fin 8) : Pr F :=
  .op (.enqueueDma (slab M q) (.remote (Dev.tc (t q d)) (slab M' q) (.dma (sem8 sS q))) (.dma (sem8 sR q))
    ((View.wordExact_bits rfl).reshape _ _) ((View.wordExact_bits rfl).reshape _ _) ⟨⟨rfl, Or.inl rfl⟩, trivial⟩) .ret

/-- The wait for a slab, received or sent. -/
def wait8 (S : DmaSems sig S8) (M M' : Memref sig .tc .vmem S8x4x64x128 .f32) (q : Fin 8) : Pr F :=
  .op (.waitDma2 (sem8 S q) (slab M q) (slab M' q) ((View.wordExact_bits rfl).reshape _ _) ((View.wordExact_bits rfl).reshape _ _)) .ret

/-- A pair's partial sum sent along the planes. -/
def sendZ (j : Fin 4) (e : Fin 3) : Pr F :=
  .op (.enqueueDma (twin E.ps (zsrcOff j e d) (zsrcOff_inb j e d))
    (.remote (Dev.tc (tgtZ j e d)) (twin E.zv (zdstOff j d) (zdstOff_inb j d)) (.dma (semZS E.zS j e)))
    (.dma (semZR E.zR (zRsOff j d) (zRsOff_inb j d)))
    ((View.wordExact_bits rfl).reshape _ _) ((View.wordExact_bits rfl).reshape _ _) ⟨⟨rfl, Or.inl rfl⟩, trivial⟩) .ret

/-- The wait for a pair's partial sum from a peer along the planes, -/
def waitZ (j : Fin 4) (e : Fin 3) : Pr F :=
  .op (.waitDma2 (semZR E.zR (zRwOff j e d) (zRwOff_inb j e d)) (twin E.ps ![2 * j.val, 0, 0, 0] (twin_inb j))
    (twin E.zv (zsrcOff j e d) (zsrcOff_inb j e d))
    ((View.wordExact_bits rfl).reshape _ _) ((View.wordExact_bits rfl).reshape _ _)) .ret

/-- and for one's own to have left. -/
def doneZ (j : Fin 4) (e : Fin 3) : Pr F :=
  .op (.waitDma2 (semZS E.zS j e) (twin E.zv (zdstOff j d) (zdstOff_inb j d)) (twin E.ps (zsrcOff j e d) (zsrcOff_inb j e d))
    ((View.wordExact_bits rfl).reshape _ _) ((View.wordExact_bits rfl).reshape _ _)) .ret

/-- Which core's rows the combined and the direct chunk hold: the left neighbour's and the right one's,
    by the chunk's parity. -/
def wC (q : Fin 8) : Fin 4 := match q with
  | 0 => 3 | 1 => 1 | 2 => 3 | 3 => 1 | 4 => 3 | 5 => 1 | 6 => 3 | 7 => 1
def wD (q : Fin 8) : Fin 4 := match q with
  | 0 => 1 | 1 => 3 | 2 => 1 | 3 => 3 | 4 => 1 | 5 => 3 | 6 => 1 | 7 => 3

/-! ## The program -/

abbrev sigs : Pr F := forL [0, 1, 2, 3, 4] fun i => semSignalWord (tgtB i d) barS 1#32
abbrev fillR : Pr F := forL qs fun q => forL zs fun z => part E d E.sr 2 q z
abbrev sendR : Pr F := forL qs fun q => send d E.sr E.rr E.srS E.srR tgtR q
abbrev fillC (j : Fin 4) : Pr F := forL (pair j) fun q => forL zs fun z => part E d E.sc (wC q) q z
abbrev combC (q : Fin 8) : Pr F :=
  (wait8 E.srR E.sr E.rr q).bind fun _ => (forL zs fun z => addC E q z).bind fun _ => send d E.sc E.rc E.scS E.scR tgtC q
abbrev direct (q : Fin 8) : Pr F :=
  (forL zs fun z => part E d E.sd (wD q) q z).bind fun _ => send d E.sd E.rd E.sdS E.sdR tgtD q
abbrev stage (j : Fin 4) : Pr F :=
  (fillC E d j).bind fun _ => (forL (pair j) (combC E d)).bind fun _ => forL (pair j) (direct E d)
abbrev fillP : Pr F := forL qs fun q => forL zs fun z => part E d E.ps 0 q z
abbrev gather (q : Fin 8) : Pr F :=
  (wait8 E.sdR E.sd E.rd q).bind fun _ => (wait8 E.scR E.sc E.rc q).bind fun _ => forL zs fun z => addP E q z
abbrev across (j : Fin 4) : Pr F :=
  (forL (pair j) (gather E)).bind fun _ => forL ds fun e => sendZ E d j e
abbrev finish (j : Fin 4) : Pr F :=
  (forL ds fun e => waitZ E d j e).bind fun _ => forL (pair j) (outQ E d)
abbrev drain (q : Fin 8) : Pr F :=
  (wait8 E.srS E.rr E.sr q).bind fun _ => (wait8 E.sdS E.rd E.sd q).bind fun _ => wait8 E.scS E.rc E.sc q
abbrev drainZ (j : Fin 4) : Pr F := forL ds fun e => doneZ E d j e

/-- What a core does once it knows its name. -/
abbrev core : Pr F :=
  (sigs d).bind fun _ => (fillR E d).bind fun _ => (semWaitWord barS 5#32).bind fun _ =>
  (sendR E d).bind fun _ => (forL js (stage E d)).bind fun _ => (fillP E d).bind fun _ =>
  (forL js (across E d)).bind fun _ => (forL js (finish E d)).bind fun _ =>
  (forL qs (drain E)).bind fun _ => forL js (drainZ E d)

/-- The whole body. -/
abbrev body : Pr F := .op .deviceId fun d => core E d

end Cert.KernelIdeal.Rs
-- ==== Proof.Mesh.lean ====
/- Where a core stands on the mesh, whom it talks to, and which slots it touches.

   The sixteen cores are four planes of four: core `4 z + p` stands on plane `z` at place `p`. The words
   of the kernel's index arithmetic are brought to this form here, for all sixteen cores. -/
module

public import proofs.«01_k».proof.Proof.Struct

@[expose] public section

noncomputable section

namespace Cert.KernelIdeal.Rs

open Idealize.ShloMosaic Idealize.ShloMosaic.TcCoe Cert.KernelIdeal Cert.KernelIdeal.Gen

/-! ## The mesh -/

/-- A core's plane, -/
def pz (c : Dev nD) : Fin 4 := ⟨c.val / 4, by have h := c.isLt; have e : nD = 16 := rfl; omega⟩
/-- and its place on the plane. -/
def pp (c : Dev nD) : Fin 4 := ⟨c.val % 4, Nat.mod_lt _ (by decide)⟩
/-- The core at a place of a plane. -/
def mk (z p : Fin 4) : Dev nD := ⟨4 * z.val + p.val, by have h := z.isLt; have h' := p.isLt; have e : nD = 16 := rfl; omega⟩

/-- The neighbours on the plane. -/
def lft (c : Dev nD) : Dev nD := mk (pz c) (pp c + 3)
def rgt (c : Dev nD) : Dev nD := mk (pz c) (pp c + 1)
/-- The plane `e + 1` further, -/
def zp (e : Fin 3) (c : Dev nD) : Fin 4 := pz c + 1 + e.castSucc
/-- the core there at the same place, -/
def zt (e : Fin 3) (c : Dev nD) : Dev nD := mk (zp e c) (pp c)
/-- and the core whose `zt e` this one is. -/
def zf (e : Fin 3) (c : Dev nD) : Dev nD := mk (pz c + 3 - e.castSucc) (pp c)

/-- Whether a chunk is an even one. -/
def evn (q : Fin 8) : Bool := q.val % 2 == 0
/-- Transfer `0` is the relay, `1` the combined chunk, `2` the direct one: which way it goes, -/
def toL (m : Fin 3) (q : Fin 8) : Bool := if m = 2 then !evn q else evn q
/-- whom it goes to, -/
def tgt (m : Fin 3) (q : Fin 8) (c : Dev nD) : Dev nD := if toL m q then lft c else rgt c
/-- and whom it comes from. -/
def sdr (m : Fin 3) (q : Fin 8) (c : Dev nD) : Dev nD := if toL m q then rgt c else lft c
/-- The five cores a core greets, -/
def bt (i : Fin 5) (c : Dev nD) : Dev nD := match i with
  | 0 => rgt c | 1 => lft c | 2 => zt 0 c | 3 => zt 1 c | 4 => zt 2 c
/-- and the five that greet it. -/
def bf (i : Fin 5) (c : Dev nD) : Dev nD := match i with
  | 0 => lft c | 1 => rgt c | 2 => zf 0 c | 3 => zf 1 c | 4 => zf 2 c

theorem lft_rgt (c : Dev nD) : lft (rgt c) = c := by revert c; decide +kernel
theorem rgt_lft (c : Dev nD) : rgt (lft c) = c := by revert c; decide +kernel
theorem sdr_tgt (m : Fin 3) (q : Fin 8) (c : Dev nD) : sdr m q (tgt m q c) = c := by revert m q c; decide +kernel
theorem bf_bt (i : Fin 5) (c : Dev nD) : bf i (bt i c) = c := by revert i c; decide +kernel
theorem zf_zt (e : Fin 3) (c : Dev nD) : zf e (zt e c) = c := by revert e c; decide +kernel
theorem mk_pz_pp (c : Dev nD) : mk (pz c) (pp c) = c := by revert c; decide +kernel
theorem pz_zt (e : Fin 3) (c : Dev nD) : pz (zt e c) = zp e c := by revert e c; decide +kernel
theorem pp_zt (e : Fin 3) (c : Dev nD) : pp (zt e c) = pp c := by revert e c; decide +kernel
theorem zp_ne (e : Fin 3) (c : Dev nD) : zp e c ≠ pz c := by revert e c; decide +kernel
theorem pz_ne_zt (e : Fin 3) (c : Dev nD) : pz c ≠ pz (zt e c) := by revert e c; decide +kernel

/-! ## The kernel's words -/

theorem tgtR_eq (q : Fin 8) (d : Dev nD) : tgtR q d = tgt 0 q d := by revert q d; decide +kernel
theorem tgtC_eq (q : Fin 8) (d : Dev nD) : tgtC q d = tgt 1 q d := by revert q d; decide +kernel
theorem tgtD_eq (q : Fin 8) (d : Dev nD) : tgtD q d = tgt 2 q d := by revert q d; decide +kernel
theorem tgtB_eq (i : Fin 5) (d : Dev nD) : tgtB i d = bt i d := by revert i d; decide +kernel
theorem tgtZ_eq (j : Fin 4) (e : Fin 3) (d : Dev nD) : tgtZ j e d = zt e d := by revert j e d; decide +kernel
theorem zsrcOff_eq (j : Fin 4) (e : Fin 3) (d : Dev nD) : zsrcOff j e d = ![2 * j.val, (zp e d).val, 0, 0] := by
  revert j e d; decide +kernel
theorem zdstOff_eq (j : Fin 4) (d : Dev nD) : zdstOff j d = ![2 * j.val, (pz d).val, 0, 0] := by revert j d; decide +kernel
theorem zRsOff_eq (j : Fin 4) (d : Dev nD) : zRsOff j d = ![j.val, (pz d).val] := by revert j d; decide +kernel
theorem zRwOff_eq (j : Fin 4) (e : Fin 3) (d : Dev nD) : zRwOff j e d = ![j.val, (zp e d).val] := by revert j e d; decide +kernel
theorem psOff_eq (q : Fin 8) (d : Dev nD) : psOff q d = ![q.val, (pz d).val, 0, 0] := by revert q d; decide +kernel
theorem zvOff_eq (q : Fin 8) (e : Fin 3) (d : Dev nD) : zvOff q e d = ![q.val, (zp e d).val, 0, 0] := by revert q e d; decide +kernel
theorem aOff_eq (w z : Fin 4) (d : Dev nD) : aOff w z d = ![256 * z.val + 64 * (pp d + w).val, 0] := by revert w z d; decide +kernel

end Cert.KernelIdeal.Rs
-- ==== Proof.Held.lean ====
/- Blocks of a core's memory, each held with what it reads: the rules of a load, a store, a loop, and of
   gathering blocks into the region a copy moves and dealing a region out into blocks again. -/
module

public import proofs.«01_k».proof.Proof.Mesh
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

/-- The ghost state: the pipelines' rounds and this protocol's. -/
abbrev UB : Type := URounds (GSem nD τ sig) (Fin 5)
abbrev UU : Type := UR sig nD τ × UB

local notation "𝕄" => MT nD τ sig Unit (Elt F) ℕ UU ℕ

abbrev 𝒱₀ : Variants := .none

/-- The weakest precondition of a piece of a core's program. -/
abbrev WP {α : Type} (c : Dev nD) (p : Prog (TpuEff nD τ sig (Elt F) Λ₀ .tc) α) (Q : α → sProp 𝕄) : sProp 𝕄 :=
  wp frame (wpE defs₀ 𝒱₀ (c : Thread nD τ) none) Set.univ p Q

theorem wp_seq {α β : Type} (c : Dev nD) (p : Prog (TpuEff nD τ sig (Elt F) Λ₀ .tc) α) (k : α → Prog (TpuEff nD τ sig (Elt F) Λ₀ .tc) β)
    (Q : β → sProp 𝕄) : WP c p (fun a => WP c (k a) Q) ⊢ WP c (p.bind k) Q :=
  Entails.of_eq (wp_bind frame (wpE defs₀ 𝒱₀ (c : Thread nD τ) none) Set.univ p k Q).symm

theorem wp_done {α : Type} (c : Dev nD) (a : α) (Q : α → sProp 𝕄) : Q a ⊢ WP (F := F) c (.ret a) Q := by
  show Q a ⊢ wp frame (wpE (defs₀ (F := F)) 𝒱₀ (c : Thread nD τ) none) Set.univ (.ret a) Q
  rw [Idealize.SL.Sem.wp_ret]
  iintro H
  imodintro
  iexact H

/-- A step's rule, used with the rest of what is held left aside. -/
theorem wp_use {α : Type} (c : Dev nD) {p : Prog (TpuEff nD τ sig (Elt F) Λ₀ .tc) α} {P : sProp 𝕄} {Q R : α → sProp 𝕄} (h : P ⊢ WP c p Q) :
    iprop(P ∗ (∀ a, Q a -∗ R a)) ⊢ WP c p R :=
  (sep_mono_left h).trans (wp_wand_r frame (wpE defs₀ 𝒱₀ (c : Thread nD τ) none) Set.univ)

/-- A step, then the rest of the program. -/
theorem wp_then {α β : Type} (c : Dev nD) {p : Prog (TpuEff nD τ sig (Elt F) Λ₀ .tc) α} {k : α → Prog (TpuEff nD τ sig (Elt F) Λ₀ .tc) β}
    {P : sProp 𝕄} {Q : α → sProp 𝕄} {R : β → sProp 𝕄} (h : P ⊢ WP c p Q) :
    iprop(P ∗ (∀ a, Q a -∗ WP c (k a) R)) ⊢ WP c (p.bind k) R :=
  (wp_use c h).trans (wp_seq c p k R)

/-- A loop, by an invariant over what is left of the list and one input and output for each turn. -/
theorem wp_forL {α : Type} (c : Dev nD) (R : List α → sProp 𝕄) (In Out : α → sProp 𝕄) (f : α → Pr F) (l : List α)
    (h : ∀ a l', (a :: l') <:+ l → iprop(R (a :: l') ∗ In a) ⊢ WP c (f a) fun _ => iprop(R l' ∗ Out a)) :
    iprop(R l ∗ bigSepL l In) ⊢ WP c (forL l f) fun _ => iprop(R [] ∗ bigSepL l Out) := by
  induction l with
  | nil =>
    exact wp_done (F := F) c PUnit.unit fun _ => iprop(R [] ∗ emp)
  | cons a l ih =>
    simp only [forL, bigSepL_cons']
    refine .trans ?_ (wp_then c (h a l (List.suffix_refl _)))
    iintro ⟨HR, ⟨Ha, HI⟩⟩
    isplitl [HR Ha]
    · isplitl [HR]; · iexact HR
      iexact Ha
    iintro %_ ⟨HR, Ho⟩
    iapply (wp_use c (ih fun a l' hs => h a l' (hs.trans (List.suffix_cons _ _))))
    isplitl [HR HI]
    · isplitl [HR]; · iexact HR
      iexact HI
    iintro %_ ⟨HR, HO⟩
    isplitl [HR]; · iexact HR
    isplitl [Ho]; · iexact Ho
    iexact HO

/-- A loop whose turns do not share anything. -/
theorem wp_forL' {α : Type} (c : Dev nD) (In Out : α → sProp 𝕄) (f : α → Pr F) (l : List α)
    (h : ∀ a, In a ⊢ WP c (f a) fun _ => Out a) :
    bigSepL l In ⊢ WP c (forL l f) fun _ => bigSepL l Out := by
  refine .trans ?_ ((wp_forL c (fun _ => iprop(emp)) In Out f l fun a l' _ => ?_).trans (wp_mono _ _ _ fun _ => BI.emp_sep.1))
  · exact BI.emp_sep.2
  · exact (BI.emp_sep.1.trans (h a)).trans (wp_mono _ _ _ fun _ => BI.emp_sep.2)

/-- A loop whose turns all use one thing and leave it as it was. -/
theorem wp_forLK {α : Type} (c : Dev nD) (K : sProp 𝕄) (In Out : α → sProp 𝕄) (f : α → Pr F) (l : List α)
    (h : ∀ a, iprop(K ∗ In a) ⊢ WP c (f a) fun _ => iprop(K ∗ Out a)) :
    iprop(K ∗ bigSepL l In) ⊢ WP c (forL l f) fun _ => iprop(K ∗ bigSepL l Out) :=
  wp_forL c (fun _ => K) In Out f l fun a _ _ => h a

/-! ## Blocks -/

variable {s : Shape}

/-- The block `r` of a core's buffer, held whole and reading `w`. -/
def win (c : Dev nD) (M : Memref sig .tc .vmem s .f32) (r : Rect s) (w : r.shape.Idx → Elt F .f32) : sProp 𝕄 :=
  iprop(∃ f, ⌜(M.access r).read (Elt F) f = w⌝ ∗ ((M.access r).loc (c : Thread nD τ) ↦[(M.access r).set]{fullShare} f))

/-- The block held, whatever it reads. -/
def winE (c : Dev nD) (M : Memref sig .tc .vmem s .f32) (r : Rect s) : sProp 𝕄 :=
  iprop(∃ f, ((M.access r).loc (c : Thread nD τ) ↦[(M.access r).set]{fullShare} f))

theorem win_forget (c : Dev nD) (M : Memref sig .tc .vmem s .f32) (r : Rect s) (w : r.shape.Idx → Elt F .f32) :
    win c M r w ⊢ winE (F := F) c M r := by
  unfold win winE
  iintro ⟨%f, -, H⟩
  iexists f
  iexact H

theorem win_load (c : Dev nD) (M : Memref sig .tc .vmem s .f32) (r : Rect s) (w : r.shape.Idx → Elt F .f32)
    (hl : M.view.LoadsAt r.toLoadRect) (k : (r.shape.Idx → Elt F .f32) → Pr F) (Q : PUnit → sProp 𝕄) :
    iprop(win c M r w ∗ (win c M r w -∗ WP c (k w) Q)) ⊢ WP c (.op (.load M r.toLoadRect hl) k) Q := by
  unfold win
  iintro ⟨⟨%f, %hf, H⟩, Hk⟩
  ihave K := (wp_load_rect (hl := hl) (k := k) (Q := Q) 𝒱₀ (c : Thread nD τ) none Set.univ (m := M) (r := r) (f := f) (q := fullShare) (Finset.Subset.refl _)) $$ H
  iapply K
  iintro H
  rw [hf]
  iapply Hk
  iexists f
  isplitr
  · ipureintro; exact hf
  iexact H

theorem winE_load (c : Dev nD) (M : Memref sig .tc .vmem s .f32) (r : Rect s)
    (hl : M.view.LoadsAt r.toLoadRect) (p : Pr F) (Q : PUnit → sProp 𝕄) :
    iprop(winE c M r ∗ (winE c M r -∗ WP c p Q)) ⊢ WP c (.op (.load M r.toLoadRect hl) fun _ => p) Q := by
  unfold winE
  iintro ⟨⟨%f, H⟩, Hk⟩
  ihave K := (wp_load_rect (hl := hl) (k := fun _ => p) (Q := Q) 𝒱₀ (c : Thread nD τ) none Set.univ (m := M) (r := r) (f := f) (q := fullShare) (Finset.Subset.refl _)) $$ H
  iapply K
  iintro H
  iapply Hk
  iexists f
  iexact H

theorem winE_store (c : Dev nD) (M : Memref sig .tc .vmem s .f32) (r : Rect s) (w : r.shape.Idx → Elt F .f32)
    (hx : (M.access r).Stores Finset.univ) (hm : Finset.univ = Finset.univ ∨ ∀ a, r.stride a = 1) (k : PUnit → Pr F) (Q : PUnit → sProp 𝕄) :
    iprop(winE c M r ∗ (win c M r w -∗ WP c (k ⟨⟩) Q)) ⊢ WP c (.op (.store M r w Finset.univ hx hm) k) Q := by
  unfold win winE
  iintro ⟨⟨%f, H⟩, Hk⟩
  ihave K := (wp_store (hx := hx) (hm := hm) (k := k) (Q := Q) 𝒱₀ (c : Thread nD τ) none Set.univ (m := M) (r := r) (w := w) (f := f) (S := (M.access r).set) (Finset.Subset.refl _)) $$ H
  iapply K
  iintro H
  iapply Hk
  iexists (M.access r).write (Elt F) f w Finset.univ
  isplitr
  · ipureintro; exact View.read_write_univ _ _
  iexact H

/-! ## Gathering and dealing out -/

variable {T : Type} [Fintype T] [DecidableEq T]

omit [Fintype T] in
/-- Choices made one by one, with a fact about each, are one choice. -/
theorem pure_gather {Y : Type} (S : Finset T) (φ : T → Y → Prop) (P : T → Y → sProp 𝕄) (y₀ : Nonempty Y) :
    bigSep S (fun t => iprop(∃ y, ⌜φ t y⌝ ∗ P t y)) ⊢ (iprop(∃ ys : T → Y, ⌜∀ t ∈ S, φ t (ys t)⌝ ∗ bigSep S fun t => P t (ys t)) : sProp 𝕄) := by
  obtain ⟨y₀⟩ := y₀
  induction S using Finset.induction_on with
  | empty =>
    iintro H
    iexists fun _ => y₀
    isplitr
    · ipureintro; intro t ht; exact absurd ht (Finset.notMem_empty _)
    iexact H
  | insert t S ht ih =>
    rw [bigSep_insert ht]
    refine (show iprop((∃ y, ⌜φ t y⌝ ∗ P t y) ∗ bigSep S (fun t => iprop(∃ y, ⌜φ t y⌝ ∗ P t y))) ⊢ _ from ?_)
    iintro ⟨⟨%y, %hy, Hy⟩, HS⟩
    ihave H := ih $$ HS
    icases H with ⟨%ys, %hys, HS⟩
    iexists Function.update ys t y
    isplitr
    · ipureintro
      intro t' ht'
      by_cases e : t' = t
      · subst e; rw [Function.update_self]; exact hy
      · rw [Function.update_of_ne e]; exact hys t' ((Finset.mem_insert.mp ht').resolve_left e)
    have e : bigSep S (fun t' => P t' (Function.update ys t y t')) = bigSep S fun t' => P t' (ys t') :=
      BI.bigSep_congr fun t' ht' => by rw [Function.update_of_ne (fun e : t' = t => ht (e ▸ ht'))]
    rw [bigSep_insert ht, Function.update_self, e]
    refine (show iprop(P t y ∗ bigSep S fun t => P t (ys t)) ⊢ iprop(P t y ∗ bigSep S fun t => P t (ys t)) from ?_)
    iintro ⟨Hy, HS⟩
    isplitl [Hy]; · iexact Hy
    iexact HS

/-- Disjoint blocks that make up a region are the region, reading in each block what the block read. -/
theorem win_join [Nonempty T] (c : Dev nD) (M : Memref sig .tc .vmem s .f32) (r : T → Rect s) (w : (t : T) → (r t).shape.Idx → Elt F .f32)
    (hd : ∀ t t', t ≠ t' → Disjoint (r t).set (r t').set) (S : Finset M.view.ty.Idx)
    (hS : ∀ x, x ∈ S ↔ ∃ t, ∃ y ∈ (r t).set, M.view.emb y = x) :
    bigSep Finset.univ (fun t => win c M (r t) (w t))
      ⊢ (iprop(∃ f, ⌜∀ t, (M.access (r t)).read (Elt F) f = w t⌝ ∗ (M.view.loc (c : Thread nD τ) ↦[S]{fullShare} f)) : sProp 𝕄) := by
  classical
  have hp : bigSep Finset.univ (fun t => win c M (r t) (w t)) ⊢ (iprop(∃ fs : T → Buf (Elt F) (M.view.loc (c : Thread nD τ)),
      ⌜∀ t, (M.access (r t)).read (Elt F) (fs t) = w t⌝ ∗ bigSep Finset.univ fun t => (M.view.loc (c : Thread nD τ) ↦[(M.access (r t)).set]{fullShare} fs t)) : sProp 𝕄) := by
    refine (pure_gather Finset.univ _ _ ⟨(fun i => cast (congrArg (Elt F) M.view.elt_eq.symm)
      (constant (F := F) ⟨0, ![]⟩ .f32 0#32 fun a => a.elim0) : Buf (Elt F) (M.view.loc (c : Thread nD τ)))⟩).trans ?_
    iintro ⟨%fs, %h, H⟩
    iexists fs
    isplitr
    · ipureintro; exact fun t => h t (Finset.mem_univ t)
    iexact H
  refine hp.trans ?_
  iintro ⟨%fs, %hf, H⟩
  ihave H := (pointsTo_biUnion_join Finset.univ (fun t => (M.access (r t)).set) fs (fs (Classical.arbitrary T)) fun t _ t' _ hne => by
    rw [View.set_slice, View.set_slice, Finset.disjoint_map]; exact hd t t' hne) $$ H
  icases H with ⟨%g, %hg, H⟩
  iexists g
  isplitr
  · ipureintro
    intro t
    rw [← hf t]
    exact View.read_congr fun i hi => hg t (Finset.mem_univ t) i hi
  rw [show S = Finset.univ.biUnion fun t => (M.access (r t)).set from ?_]
  · iexact H
  · ext x
    rw [hS, Finset.mem_biUnion]
    simp only [View.set_slice, Finset.mem_map, Finset.mem_univ, _root_.true_and]

/-- And the region dealt out. -/
theorem win_deal (c : Dev nD) (M : Memref sig .tc .vmem s .f32) (r : T → Rect s)
    (hd : ∀ t t', t ≠ t' → Disjoint (r t).set (r t').set) (S : Finset M.view.ty.Idx)
    (hS : ∀ x, x ∈ S ↔ ∃ t, ∃ y ∈ (r t).set, M.view.emb y = x) (f : Buf (Elt F) (M.view.loc (c : Thread nD τ))) :
    (M.view.loc (c : Thread nD τ) ↦[S]{fullShare} f)
      ⊢ (bigSep Finset.univ fun t => win c M (r t) ((M.access (r t)).read (Elt F) f) : sProp 𝕄) := by
  classical
  rw [show S = Finset.univ.biUnion fun t => (M.access (r t)).set from ?_, pointsTo_biUnion]
  · refine BI.bigSep_mono fun t _ => ?_
    unfold win
    refine (show ((M.access (r t)).loc (c : Thread nD τ) ↦[(M.access (r t)).set]{fullShare} f : sProp 𝕄) ⊢ _ from ?_)
    iintro H
    iexists f
    isplitr
    · ipureintro; rfl
    iexact H
  · exact fun t _ t' _ hne => by rw [View.set_slice, View.set_slice, Finset.disjoint_map]; exact hd t t' hne
  · ext x
    rw [hS, Finset.mem_biUnion]
    simp only [View.set_slice, Finset.mem_map, Finset.mem_univ, _root_.true_and]

end Cert.KernelIdeal.Rs
-- ==== Proof.Slots.lean ====
/- The slots of a scratch buffer: the whole buffer as its thirty-two slots, a slab as the four slots of a
   chunk, a twin as one plane's slots of two chunks, and what a copy of a slab or a twin leaves in each. -/
module

public import proofs.«01_k».proof.Proof.Held

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-- A scratch buffer of slots, -/
abbrev Buf4 := Memref sig .tc .vmem S8x4x64x128 .f32
/-- and what a slot holds. -/
abbrev Sv (F : FTy → Type) := FVec F S1x1x64x128 .f32

/-- Slot `(q, z)` held, reading `w`; -/
abbrev slot (c : Dev nD) (M : Buf4) (q : Fin 8) (z : Fin 4) (w : Sv F) : sProp 𝕄 := win c M (slotR q z) w
/-- slot `(q, z)` held. -/
abbrev slotE (c : Dev nD) (M : Buf4) (q : Fin 8) (z : Fin 4) : sProp 𝕄 := winE (F := F) c M (slotR q z)
/-- The four slots of chunk `q`, -/
abbrev row (c : Dev nD) (M : Buf4) (q : Fin 8) (w : Fin 4 → Sv F) : sProp 𝕄 := bigSepL zs fun z => slot c M q z (w z)
abbrev rowE (c : Dev nD) (M : Buf4) (q : Fin 8) : sProp 𝕄 := bigSepL zs fun z => slotE (F := F) c M q z

/-- The two chunks of pair `j`. -/
def tw (j : Fin 4) (i : Fin 2) : Fin 8 := ⟨2 * j.val + i.val, by have := j.isLt; have := i.isLt; omega⟩
theorem pair_eq (j : Fin 4) : pair j = [tw j 0, tw j 1] := by revert j; decide

/-- The slots of pair `j` on plane `z`. -/
abbrev duo (c : Dev nD) (M : Buf4) (j : Fin 4) (z : Fin 4) (w : Fin 8 → Sv F) : sProp 𝕄 := bigSepL (pair j) fun q => slot c M q z (w q)
abbrev duoE (c : Dev nD) (M : Buf4) (j : Fin 4) (z : Fin 4) : sProp 𝕄 := bigSepL (pair j) fun q => slotE (F := F) c M q z

theorem mem_slot {q : Fin 8} {z : Fin 4} {x : S8x4x64x128.Idx} : x ∈ (slotR q z).set ↔ (x 0).val = q.val ∧ (x 1).val = z.val := by
  rw [Rect.mem_set_unit]
  have h2 := (x 2).isLt
  have h3 := (x 3).isLt
  constructor
  · intro h
    have h0 := h 0
    have h1 := h 1
    simp at h0 h1
    omega
  · rintro ⟨h0, h1⟩ a
    match a with
    | 0 => simp; omega
    | 1 => simp; omega
    | 2 => simpa using h2
    | 3 => simpa using h3

theorem slot_disj {q q' : Fin 8} {z z' : Fin 4} (h : (q, z) ≠ (q', z')) : Disjoint (slotR q z).set (slotR q' z').set := by
  rw [Finset.disjoint_left]
  intro x hx hx'
  rw [mem_slot] at hx hx'
  exact h (Prod.ext (Fin.ext (hx.1.symm.trans hx'.1)) (Fin.ext (hx.2.symm.trans hx'.2)))

theorem mem_slab {q : Fin 8} {x : S8x4x64x128.Idx} :
    x ∈ (Rect.unit (s := S8x4x64x128) ![q.val, 0, 0, 0] S1x4x64x128.size (slab_inb q)).set ↔ (x 0).val = q.val := by
  rw [Rect.mem_set_unit]
  have h1 := (x 1).isLt
  have h2 := (x 2).isLt
  have h3 := (x 3).isLt
  constructor
  · intro h
    have h0 := h 0
    simp at h0
    omega
  · rintro h0 a
    match a with
    | 0 => simp; omega
    | 1 => simpa using h1
    | 2 => simpa using h2
    | 3 => simpa using h3

theorem mem_twin {off : Fin 4 → Nat} {h : ∀ a, off a + S2x1x64x128.size a ≤ S8x4x64x128.size a} {j z : Fin 4}
    (ho : off = ![2 * j.val, z.val, 0, 0]) {x : S8x4x64x128.Idx} :
    x ∈ (Rect.unit (s := S8x4x64x128) off S2x1x64x128.size h).set ↔ ∃ i, (x 0).val = (tw j i).val ∧ (x 1).val = z.val := by
  subst ho
  rw [Rect.mem_set_unit]
  have h2 := (x 2).isLt
  have h3 := (x 3).isLt
  constructor
  · intro h
    have h0 := h 0
    have h1 := h 1
    simp at h0 h1
    refine ⟨⟨(x 0).val - 2 * j.val, by omega⟩, ?_, by omega⟩
    show _ = 2 * j.val + ((x 0).val - 2 * j.val)
    omega
  · rintro ⟨i, h0, h1⟩ a
    have := i.isLt
    have h0 : (x 0).val = 2 * j.val + i.val := h0
    match a with
    | 0 => simp; omega
    | 1 => simp; omega
    | 2 => simpa using h2
    | 3 => simpa using h3

theorem zs_univ : (Finset.univ : Finset (Fin 4)) = zs.toFinset := by decide
theorem qs_univ : (Finset.univ : Finset (Fin 8)) = qs.toFinset := by decide

/-! ## A slab -/

theorem slab_cov (M : Buf4) (q : Fin 8) (x : M.view.ty.Idx) : x ∈ (slab M q).view.set ↔ ∃ z, ∃ y ∈ (slotR q z).set, M.view.emb y = x := by
  rw [View.set_reshape]
  refine (iff_of_eq (congrArg (x ∈ ·) (View.set_slice (v := M.view) _))).trans ?_
  rw [Finset.mem_map]
  constructor
  · rintro ⟨y, hy, rfl⟩
    rw [mem_slab] at hy
    exact ⟨y 1, y, mem_slot.mpr ⟨hy, rfl⟩, rfl⟩
  · rintro ⟨z, y, hy, rfl⟩
    exact ⟨y, mem_slab.mpr (mem_slot.mp hy).1, rfl⟩

theorem row_join (c : Dev nD) (M : Buf4) (q : Fin 8) (w : Fin 4 → Sv F) :
    row c M q w ⊢ (iprop(∃ f, ⌜∀ z, (M.access (slotR q z)).read (Elt F) f = w z⌝ ∗ ((slab M q).view.loc (c : Thread nD τ) ↦[(slab M q).view.set]{fullShare} f)) : sProp 𝕄) := by
  refine (Entails.of_eq (bigSep_univ_eq_bigSepL zs zs_univ (by decide) _).symm).trans ?_
  exact win_join c M (fun z => slotR q z) w (fun z z' h => slot_disj fun e => h (congrArg Prod.snd e)) _ (slab_cov M q)

theorem row_deal (c : Dev nD) (M : Buf4) (q : Fin 8) (f : Buf (Elt F) (M.view.loc (c : Thread nD τ))) :
    ((slab M q).view.loc (c : Thread nD τ) ↦[(slab M q).view.set]{fullShare} f) ⊢ row c M q fun z => (M.access (slotR q z)).read (Elt F) f := by
  refine .trans ?_ (Entails.of_eq (bigSep_univ_eq_bigSepL zs zs_univ (by decide) _))
  exact win_deal c M (fun z => slotR q z) (fun z z' h => slot_disj fun e => h (congrArg Prod.snd e)) _ (slab_cov M q) f

/-- Two views of one shape: what is read where the one was copied to the other is what the other read. -/
theorem read_copied {s s' : Shape} (M M' : Memref sig .tc .vmem s .f32) (R R' : Rect s) (h : s'.numel = R.shape.numel) (h' : s'.numel = R'.shape.numel)
    (e : M.view.ty.Contents (Elt F)) (g : M'.view.ty.Contents (Elt F)) (x x' : s.Idx)
    (hx : ∃ y, R.emb ((Shape.reshapeEquiv h) y) = x ∧ R'.emb ((Shape.reshapeEquiv h') y) = x') :
    M'.view.read (Elt F) (((M'.view.slice R').reshape s' h').write (Elt F) g (((M.view.slice R).reshape s' h).read (Elt F) e) Finset.univ) x' = M.view.read (Elt F) e x := by
  obtain ⟨y, rfl, rfl⟩ := hx
  exact congrFun (View.read_write_univ (v := (M'.view.slice R').reshape s' h') g (((M.view.slice R).reshape s' h).read (Elt F) e)) y

/-- A copied slab holds in each slot what the source's slot held. -/
theorem slab_copied (M M' : Buf4) (q : Fin 8) (z : Fin 4) (f : M.view.ty.Contents (Elt F)) (g : M'.view.ty.Contents (Elt F)) :
    (M'.access (slotR q z)).read (Elt F) ((slab M' q).view.write (Elt F) g ((slab M q).view.read (Elt F) f) Finset.univ)
      = (M.access (slotR q z)).read (Elt F) f := by
  funext x
  refine read_copied M M' _ _ _ _ f g ((slotR q z).emb x) ((slotR q z).emb x) ?_
  have hm : (slotR q z).emb x ∈ (Rect.unit (s := S8x4x64x128) ![q.val, 0, 0, 0] S1x4x64x128.size (slab_inb q)).set :=
    mem_slab.mpr (mem_slot.mp ((slotR q z).idx_mem x)).1
  obtain ⟨y, hy⟩ := LoadRect.exists_idx_of_mem _ hm
  exact ⟨(Shape.reshapeEquiv _).symm y, by rw [Equiv.apply_symm_apply]; exact hy, by rw [Equiv.apply_symm_apply]; exact hy⟩

/-! ## A twin -/

variable {off off' : Fin 4 → Nat} {h : ∀ a, off a + S2x1x64x128.size a ≤ S8x4x64x128.size a} {h' : ∀ a, off' a + S2x1x64x128.size a ≤ S8x4x64x128.size a}
  {j z z' : Fin 4}

theorem twin_cov (M : Buf4) (ho : off = ![2 * j.val, z.val, 0, 0]) (x : M.view.ty.Idx) :
    x ∈ (twin M off h).view.set ↔ ∃ i : Fin 2, ∃ y ∈ (slotR (tw j i) z).set, M.view.emb y = x := by
  rw [View.set_reshape]
  refine (iff_of_eq (congrArg (x ∈ ·) (View.set_slice (v := M.view) _))).trans ?_
  rw [Finset.mem_map]
  constructor
  · rintro ⟨y, hy, rfl⟩
    obtain ⟨i, hi⟩ := (mem_twin ho).mp hy
    exact ⟨i, y, mem_slot.mpr hi, rfl⟩
  · rintro ⟨i, y, hy, rfl⟩
    exact ⟨y, (mem_twin ho).mpr ⟨i, mem_slot.mp hy⟩, rfl⟩

theorem tw_disj (i i' : Fin 2) (hi : i ≠ i') : Disjoint (slotR (tw j i) z).set (slotR (tw j i') z).set :=
  slot_disj fun e => hi (Fin.ext (by have := congrArg (fun p : Fin 8 × Fin 4 => p.1.val) e; simp [tw] at this; omega))

theorem duo_join (c : Dev nD) (M : Buf4) (w : Fin 8 → Sv F) (ho : off = ![2 * j.val, z.val, 0, 0]) :
    duo c M j z w ⊢ (iprop(∃ f, ⌜∀ i, (M.access (slotR (tw j i) z)).read (Elt F) f = w (tw j i)⌝ ∗ ((twin M off h).view.loc (c : Thread nD τ) ↦[(twin M off h).view.set]{fullShare} f)) : sProp 𝕄) := by
  refine (Entails.of_eq ?_).trans (win_join c M (fun i => slotR (tw j i) z) (fun i => w (tw j i)) tw_disj _ (twin_cov M ho))
  show (bigSepL (pair j) (fun q => slot c M q z (w q)) : sProp 𝕄) = _
  rw [pair_eq]
  exact (bigSep_univ_eq_bigSepL [(0 : Fin 2), 1] (by decide) (by decide) fun i => slot c M (tw j i) z (w (tw j i))).symm

theorem duo_deal (c : Dev nD) (M : Buf4) (ho : off = ![2 * j.val, z.val, 0, 0]) (f : Buf (Elt F) (M.view.loc (c : Thread nD τ))) :
    ((twin M off h).view.loc (c : Thread nD τ) ↦[(twin M off h).view.set]{fullShare} f) ⊢ duo c M j z fun q => (M.access (slotR q z)).read (Elt F) f := by
  refine (win_deal c M (fun i => slotR (tw j i) z) tw_disj _ (twin_cov M ho) f).trans (Entails.of_eq ?_)
  show _ = bigSepL (pair j) (fun q => slot c M q z ((M.access (slotR q z)).read (Elt F) f))
  rw [pair_eq]
  exact bigSep_univ_eq_bigSepL [(0 : Fin 2), 1] (by decide) (by decide) _

/-- A copied twin holds in each slot what the source's slot held. -/
theorem twin_copied (M M' : Buf4) (ho : off = ![2 * j.val, z.val, 0, 0]) (ho' : off' = ![2 * j.val, z'.val, 0, 0]) (i : Fin 2)
    (f : M.view.ty.Contents (Elt F)) (g : M'.view.ty.Contents (Elt F)) :
    (M'.access (slotR (tw j i) z')).read (Elt F) ((twin M' off' h').view.write (Elt F) g ((twin M off h).view.read (Elt F) f) Finset.univ)
      = (M.access (slotR (tw j i) z)).read (Elt F) f := by
  funext x
  refine read_copied M M' _ _ _ _ f g ((slotR (tw j i) z).emb x) ((slotR (tw j i) z').emb x) ?_
  have hm : (slotR (tw j i) z).emb x ∈ (Rect.unit (s := S8x4x64x128) off S2x1x64x128.size h).set :=
    (mem_twin ho).mpr ⟨i, mem_slot.mp ((slotR (tw j i) z).idx_mem x)⟩
  obtain ⟨y, hy⟩ := LoadRect.exists_idx_of_mem _ hm
  refine ⟨(Shape.reshapeEquiv _).symm y, by rw [Equiv.apply_symm_apply]; exact hy, ?_⟩
  rw [Equiv.apply_symm_apply]
  subst ho ho'
  funext a
  have ha := congrArg (fun k : S8x4x64x128.Idx => (k a).val) hy
  refine Fin.ext ?_
  match a with
  | 0 => exact ha
  | 1 =>
    have h1 := (mem_slot.mp ((slotR (tw j i) z).idx_mem x)).2
    have h1' := (mem_slot.mp ((slotR (tw j i) z').idx_mem x)).2
    have : (y 1).val = 0 := by have := (y 1).isLt; simp at this; omega
    refine Eq.trans ?_ h1'.symm
    show z'.val + 1 * (y 1).val = _
    omega
  | 2 => exact ha
  | 3 => exact ha

/-! ## The whole buffer -/

theorem whole_cov (M : Buf4) (x : M.view.ty.Idx) : x ∈ M.view.set ↔ ∃ t : Fin 8 × Fin 4, ∃ y ∈ (slotR t.1 t.2).set, M.view.emb y = x := by
  rw [View.set, Finset.mem_map]
  constructor
  · rintro ⟨y, -, rfl⟩
    exact ⟨(y 0, y 1), y, mem_slot.mpr ⟨rfl, rfl⟩, rfl⟩
  · rintro ⟨t, y, -, rfl⟩
    exact ⟨y, Finset.mem_univ _, rfl⟩

/-- A whole buffer is its slots, row by row; -/
theorem buf_deal (c : Dev nD) (M : Buf4) (f : Buf (Elt F) (M.view.loc (c : Thread nD τ))) :
    (M.view.loc (c : Thread nD τ) ↦[M.view.set]{fullShare} f) ⊢ bigSepL qs fun q => rowE (F := F) c M q := by
  refine (win_deal c M (fun t : Fin 8 × Fin 4 => slotR t.1 t.2) (fun t t' h => slot_disj h) _ (whole_cov M) f).trans ?_
  have e : bigSep Finset.univ (fun t : Fin 8 × Fin 4 => slotE (F := F) c M t.1 t.2) = bigSepL qs fun q => rowE (F := F) c M q := by
    rw [BI.bigSep_univ_prod, bigSep_univ_eq_bigSepL qs qs_univ (by decide)]
    congr 1
    funext q
    exact bigSep_univ_eq_bigSepL zs zs_univ (by decide) _
  rw [← e]
  exact BI.bigSep_mono fun t _ => win_forget c M _ _

end Cert.KernelIdeal.Rs
-- ==== Proof.Contents.lean ====
/- What every slot of every core holds, as a function of the cores' blocks of the two arguments. -/
module

public import proofs.«01_k».proof.Proof.Slots

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

/-- The buffers and semaphores the kernel is launched with. -/
abbrev E0 : Env where
  a := Memref.whole cc0_stg0_0
  b := Memref.whole cc0_stg1_0
  o := Memref.whole cc0_stg2_0
  sd := Memref.whole cc0_scratch0
  sr := Memref.whole cc0_scratch1
  sc := Memref.whole cc0_scratch2
  rd := Memref.whole cc0_scratch3
  rr := Memref.whole cc0_scratch4
  rc := Memref.whole cc0_scratch5
  ps := Memref.whole cc0_scratch6
  zv := Memref.whole cc0_scratch7
  sdS := cc0_scratch8
  sdR := cc0_scratch9
  srS := cc0_scratch10
  srR := cc0_scratch11
  scS := cc0_scratch12
  scR := cc0_scratch13
  zS := cc0_scratch14
  zR := cc0_scratch15

/-- A core's blocks of the two arguments. -/
abbrev CA (F : FTy → Type) := Dev nD → (cc0_stg0_0 : Ref sig .tc).ty.Contents (Elt F)
abbrev CB (F : FTy → Type) := Dev nD → (cc0_stg1_0 : Ref sig .tc).ty.Contents (Elt F)

variable (fA : CA F) (fB : CB F)

/-- The rows of the block of `A` of core `d` that belong to the core `w` places around plane `z`, -/
def vA (w z : Fin 4) (d : Dev nD) : Vec F S64x512 .f32 := (E0.a.access (aR w z d)).read (Elt F) (fA d)
/-- and a chunk of its block of `B`. -/
def vB (q : Fin 8) (d : Dev nD) : Vec F S512x128 .f32 := (E0.b.access (bR q)).read (Elt F) (fB d)

/-- Their product. -/
def prt (w : Fin 4) (d : Dev nD) (q : Fin 8) (z : Fin 4) : Sv F := k0_pay1 (vA fA w z d) (vB fB q d)
/-- The chunk core `d` has combined for its neighbour: its own product and the relayed one. -/
def cmb (d : Dev nD) (q : Fin 8) (z : Fin 4) : Sv F := k0_pay81 (prt fA fB (wC q) d q z) (prt fA fB 2 (sdr 0 q d) q z)
/-- The three things a core sends on its plane: the relayed chunk, the combined one, the direct one. -/
def cnt (m : Fin 3) (d : Dev nD) (q : Fin 8) (z : Fin 4) : Sv F := match m with
  | 0 => prt fA fB 2 d q z | 1 => cmb fA fB d q z | 2 => prt fA fB (wD q) d q z
/-- The sum of the plane's four products. -/
def pls (d : Dev nD) (q : Fin 8) (z : Fin 4) : Sv F :=
  k0_pay209 (prt fA fB 0 d q z) (cnt fA fB 2 (sdr 2 q d) q z) (cnt fA fB 1 (sdr 1 q d) q z)
/-- A plane's sum of core `d`'s rows, held by the core of that plane at the same place. -/
def zsv (d : Dev nD) (z : Fin 4) (q : Fin 8) : Sv F := pls fA fB (mk z (pp d)) q (pz d)
/-- A chunk of the result. -/
def res (d : Dev nD) (q : Fin 8) : FVec F S64x128 .f32 :=
  k0_pay246 (k0_pay245 (pls fA fB d q (pz d)) (zsv fA fB d (zp 0 d) q)) (zsv fA fB d (zp 1 d) q) (zsv fA fB d (zp 2 d) q)

/-- The three transfers on a plane: source, destination and semaphores. -/
abbrev srcM (m : Fin 3) : Buf4 := match m with | 0 => E0.sr | 1 => E0.sc | 2 => E0.sd
abbrev dstM (m : Fin 3) : Buf4 := match m with | 0 => E0.rr | 1 => E0.rc | 2 => E0.rd
abbrev sS (m : Fin 3) : DmaSems sig S8 := match m with | 0 => E0.srS | 1 => E0.scS | 2 => E0.sdS
abbrev sR (m : Fin 3) : DmaSems sig S8 := match m with | 0 => E0.srR | 1 => E0.scR | 2 => E0.sdR

end Cert.KernelIdeal.Rs
-- ==== Proof.Cells.lean ====
/- The semaphores of the protocol, what is due on each of them, and in which order they may be waited for. -/
module

public import proofs.«01_k».proof.Proof.Contents

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## Cells -/

/-- A core's semaphores: the barrier; for each transfer on the plane and each chunk, the one for having
    sent it (`true`) and the one for having received it (`false`); those for having sent a pair along the
    planes; those for having received one from a plane. -/
abbrev Cl : Type := Unit ⊕ (Bool × Fin 3 × Fin 8) ⊕ (Fin 4 × Fin 3) ⊕ (Fin 4 × Fin 4)
@[match_pattern] abbrev Cl.bar : Cl := .inl ()
@[match_pattern] abbrev Cl.pl (s : Bool) (m : Fin 3) (q : Fin 8) : Cl := .inr (.inl (s, m, q))
@[match_pattern] abbrev Cl.zs (j : Fin 4) (e : Fin 3) : Cl := .inr (.inr (.inl (j, e)))
@[match_pattern] abbrev Cl.zr (j z : Fin 4) : Cl := .inr (.inr (.inr (j, z)))

theorem zR_inb (j z : Fin 4) : ∀ a, (![j.val, z.val] : Fin 2 → Nat) a + S1x1.size a ≤ S4x4.size a := by
  revert j z; decide

def csem : Cl → SemLoc sig
  | .bar => .reg barS
  | .pl s m q => .dma (sem8 (if s then sS m else sR m) q)
  | .zs j e => .dma (semZS E0.zS j e)
  | .zr j z => .dma (semZR E0.zR ![j.val, z.val] (zR_inb j z))

/-- The number of a semaphore, `0` for the barrier. -/
def cnum : SemLoc sig → Nat
  | .reg _ => 0
  | .dma i => i.val

theorem cnum_pl : ∀ (s : Bool) (m : Fin 3) (q : Fin 8),
    cnum (csem (.pl s m q)) = 3 + 16 * (match m with | 0 => 1 | 1 => 2 | 2 => 0) + (if s then 0 else 8) + q.val := by decide +kernel
theorem pl_lt : ∀ (s : Bool) (m : Fin 3) (q : Fin 8), 3 ≤ cnum (csem (.pl s m q)) ∧ cnum (csem (.pl s m q)) < 51 := by decide +kernel
theorem cnum_zs : ∀ (j : Fin 4) (e : Fin 3), cnum (csem (.zs j e)) = 51 + 3 * j.val + e.val := by decide +kernel
theorem cnum_zr : ∀ (j z : Fin 4), cnum (csem (.zr j z)) = 63 + 4 * j.val + z.val := by decide +kernel
theorem cnum_bar : cnum (csem .bar) = 0 := rfl

theorem pl_digits : ∀ (s s' : Bool) (m m' : Fin 3) (q q' : Fin 8),
    3 + 16 * (match m with | 0 => 1 | 1 => 2 | 2 => 0) + (if s then 0 else 8) + q.val
      = 3 + 16 * (match m' with | 0 => 1 | 1 => 2 | 2 => 0) + (if s' then 0 else 8) + q'.val → s = s' ∧ m = m' ∧ q = q' := by decide +kernel

theorem csem_injective : Function.Injective csem := by
  intro k k' e
  replace e := congrArg cnum e
  match k, k' with
  | .bar, .bar => rfl
  | .bar, .pl s m q => rw [cnum_bar] at e; have := pl_lt s m q; omega
  | .bar, .zs j e' => rw [cnum_bar, cnum_zs] at e; omega
  | .bar, .zr j z => rw [cnum_bar, cnum_zr] at e; omega
  | .pl s m q, .bar => rw [cnum_bar] at e; have := pl_lt s m q; omega
  | .zs j e', .bar => rw [cnum_bar, cnum_zs] at e; omega
  | .zr j z, .bar => rw [cnum_bar, cnum_zr] at e; omega
  | .pl s m q, .zs j e' => rw [cnum_zs] at e; have := pl_lt s m q; omega
  | .pl s m q, .zr j e' => rw [cnum_zr] at e; have := pl_lt s m q; omega
  | .zs j e', .pl s m q => rw [cnum_zs] at e; have := pl_lt s m q; omega
  | .zr j e', .pl s m q => rw [cnum_zr] at e; have := pl_lt s m q; omega
  | .zs j e', .zr j' z => rw [cnum_zr, cnum_zs] at e; omega
  | .zr j z, .zs j' e' => rw [cnum_zr, cnum_zs] at e; omega
  | .zs j i, .zs j' i' =>
    rw [cnum_zs, cnum_zs] at e
    rw [show j = j' from Fin.ext (by omega), show i = i' from Fin.ext (by omega)]
  | .zr j i, .zr j' i' =>
    rw [cnum_zr, cnum_zr] at e
    rw [show j = j' from Fin.ext (by omega), show i = i' from Fin.ext (by omega)]
  | .pl s m q, .pl s' m' q' =>
    rw [cnum_pl, cnum_pl] at e
    obtain ⟨hs, hm', hq⟩ := pl_digits s s' m m' q q' e
    rw [hs, hm', hq]

open Classical in
/-- Which of the protocol's semaphores a semaphore is. -/
def dec (s : SemLoc sig) : Option Cl := if h : ∃ k, csem k = s then some h.choose else none
theorem dec_csem (k : Cl) : dec (csem k) = some k := by
  have h : ∃ k', csem k' = csem k := ⟨k, rfl⟩
  unfold dec
  rw [dif_pos h]
  exact congrArg some (csem_injective h.choose_spec)

abbrev kcell (x : Dev nD × Cl) : GSem nD τ sig := ((x.1 : Thread nD τ), csem x.2)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-! ## Amounts and levels -/

/-- What a slab's copy credits, and a twin's. -/
def nS : ℕ := (slab E0.sr 0).view.dmaCredit
def nZ : ℕ := (twin E0.zv ![2 * (0 : Fin 4).val, 0, 0, 0] (twin_inb 0)).view.dmaCredit
theorem nS_pos : 0 < nS := View.dmaCredit_pos _ (by decide)
theorem nZ_pos : 0 < nZ := View.dmaCredit_pos _ (by decide)

def amt : Cl → ℕ
  | .bar => 1
  | .pl _ _ _ => nS
  | .zs _ _ => nZ
  | .zr _ _ => nZ
theorem amt_pos (k : Cl) : 0 < amt k := by
  match k with
  | .bar => exact Nat.one_pos
  | .pl _ _ _ => exact nS_pos
  | .zs _ _ => exact nZ_pos
  | .zr _ _ => exact nZ_pos

/-- A wait is for a semaphore of a lower level than all that is still owed. -/
def lvl : Cl → ℕ
  | .bar => 1
  | .pl true _ _ => 0
  | .pl false m _ => if m = 0 then 2 else 3
  | .zs _ _ => 0
  | .zr _ _ => 4

/-! ## Dues -/

/-- What a core owes to other cores: a greeting, a chunk on the plane, a pair along the planes. -/
abbrev Ob : Type := Fin 5 ⊕ (Fin 3 × Fin 8) ⊕ (Fin 4 × Fin 3)
@[match_pattern] abbrev Ob.gr (i : Fin 5) : Ob := .inl i
@[match_pattern] abbrev Ob.pl (m : Fin 3) (q : Fin 8) : Ob := .inr (.inl (m, q))
@[match_pattern] abbrev Ob.zz (j : Fin 4) (e : Fin 3) : Ob := .inr (.inr (j, e))

/-- The core and the semaphore it is owed to, -/
def item (o : Ob) (c : Dev nD) : Dev nD × Cl := match o with
  | .gr i => (bt i c, .bar)
  | .pl m q => (tgt m q c, .pl false m q)
  | .zz j e => (zt e c, .zr j (pz c))
/-- which core owes it to this one, -/
def src (o : Ob) (c : Dev nD) : Dev nD := match o with
  | .gr i => bf i c
  | .pl m q => sdr m q c
  | .zz _ e => zf e c
/-- and which of the semaphore's dues it is. -/
def due (o : Ob) : Fin 5 := match o with
  | .gr i => i
  | _ => 0
def lvO (o : Ob) : ℕ := match o with
  | .gr _ => 1
  | .pl m _ => if m = 0 then 2 else 3
  | .zz _ _ => 4

theorem src_item (o : Ob) (c : Dev nD) : src o (item o c).1 = c := by
  match o with
  | .gr i => exact bf_bt i c
  | .pl m q => exact sdr_tgt m q c
  | .zz j e => exact zf_zt e c
theorem item_inj (o : Ob) : Function.Injective fun c => (item o c).1 :=
  fun c c' h => (src_item o c).symm.trans ((congrArg (src o) h).trans (src_item o c'))
theorem item_src (o : Ob) (c : Dev nD) : (item o (src o c)).1 = c := by
  obtain ⟨c', rfl⟩ := (Finite.injective_iff_surjective.mp (item_inj o)) c
  exact congrArg (fun x => (item o x).1) (src_item o c')
theorem lvl_item (o : Ob) (c : Dev nD) : lvl (item o c).2 = lvO o := by
  match o with
  | .gr i => rfl
  | .pl m q => rfl
  | .zz j e => rfl

/-- The core whose greeting, chunk or pair it is, from the semaphore and the due. -/
theorem item_due (o o' : Ob) (c c' : Dev nD) (h : item o c = item o' c') (hd : due o = due o') : o = o' ∧ c = c' := by
  have key : o = o' := by
    match o, o' with
    | .gr i, .gr i' => exact congrArg _ hd
    | .pl m q, .pl m' q' => have := congrArg Prod.snd h; simp [item] at this; rw [this.1, this.2]
    | .zz j e, .zz j' e' =>
      have hj : j = j' := by have := congrArg Prod.snd h; simp [item] at this; exact this.1
      have hz : pz c = pz c' := by have := congrArg Prod.snd h; simp [item] at this; exact this.2
      have ht : pz (zt e c) = pz (zt e' c') := congrArg (fun x : Dev nD × Cl => pz x.1) h
      rw [pz_zt, pz_zt] at ht
      have : e = e' := by
        unfold zp at ht
        rw [hz] at ht
        exact (by decide : ∀ (z : Fin 4) (e e' : Fin 3), z + 1 + e.castSucc = z + 1 + e'.castSucc → e = e') _ _ _ ht
      rw [hj, this]
    | .gr i, .pl m q => have := congrArg Prod.snd h; simp [item] at this
    | .gr i, .zz m q => have := congrArg Prod.snd h; simp [item] at this
    | .pl m q, .gr i => have := congrArg Prod.snd h; simp [item] at this
    | .pl m q, .zz _ _ => have := congrArg Prod.snd h; simp [item] at this
    | .zz m q, .gr i => have := congrArg Prod.snd h; simp [item] at this
    | .zz m q, .pl _ _ => have := congrArg Prod.snd h; simp [item] at this
  subst key
  exact ⟨rfl, item_inj o (congrArg Prod.fst h)⟩

/-- The tally of what core `c` owes by a list of dues; the head of the list is paid first. -/
def owedL (c : Dev nD) : List Ob → CellTallies nD τ sig Unit
  | [] => 0
  | o :: l => owedL c l + tallyAt (kcell (item o c)) () (amt (item o c).2)

/-- What is owed at each point of the program, in program order. -/
def obB : List Ob := [0, 1, 2, 3, 4].map Ob.gr
def obR : List Ob := qs.map (Ob.pl 0)
def obS (j : Fin 4) : List Ob := (pair j).map (Ob.pl 1) ++ (pair j).map (Ob.pl 2)
def obZ (j : Fin 4) : List Ob := ds.map (Ob.zz j)
def obSs : List (Fin 4) → List Ob := fun l => l.flatMap obS
def obZs : List (Fin 4) → List Ob := fun l => l.flatMap obZ
def oblig : List Ob := obB ++ (obR ++ (obSs js ++ obZs js))

theorem oblig_univ : (Finset.univ : Finset Ob) = oblig.toFinset := by decide +kernel
theorem oblig_nodup : oblig.Nodup := by decide +kernel

theorem owedL_pos {c : Dev nD} {l : List Ob} {g : GSem nD τ sig} {u : Unit} (h : 0 < owedL c l g u) : ∃ o ∈ l, g = kcell (item o c) := by
  induction l with
  | nil => exact absurd h (Nat.lt_irrefl 0)
  | cons o l ih =>
    unfold owedL at h
    rw [Pi.add_apply, Finsupp.add_apply, tallyAt_apply] at h
    by_cases e : g = kcell (item o c) ∧ u = ()
    · exact ⟨o, List.mem_cons_self, e.1⟩
    · rw [if_neg e, Nat.add_zero] at h
      obtain ⟨o', ho', hg⟩ := ih h
      exact ⟨o', List.mem_cons_of_mem _ ho', hg⟩

def L (g : GSem nD τ sig) : Finset Unit := if g.1.2 = .tc then {()} else ∅
def lv (g : GSem nD τ sig) (_ : Unit) : ℕ := match dec g.2 with | some k => lvl k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × Cl) : lv (kcell x) () = lvl x.2 := by
  show (match dec (csem x.2) with | some k => lvl k | none => 0) = _
  rw [dec_csem]

/-- A core may wait for a semaphore while all it owes is of higher levels. -/
theorem mayWait_of (c : Dev nD) (sm : SemLoc sig) (l : List Ob) (h : ∀ o ∈ l, lv ((c : Thread nD τ), sm) () < lvO o) :
    (levAts L lv : sProp 𝕄) ⊢ MayWait (c : Thread nD τ) sm () (owedL c l) :=
  MayOwe.of_cut (L := L) (lev := lv) (lv ((c : Thread nD τ), sm) ())
    (fun p hp => by rw [Finset.mem_singleton.mp hp, L_tc]; exact Finset.mem_singleton_self _)
    (fun g u hg => by obtain ⟨o, -, rfl⟩ := owedL_pos hg; exact Finset.mem_singleton_self _)
    (fun p hp => by rw [Finset.mem_singleton.mp hp])
    (fun g u hg => by
      obtain ⟨o, ho, rfl⟩ := owedL_pos hg
      rw [lv_kcell, lvl_item]
      exact h o ho)

end Cert.KernelIdeal.Rs
-- ==== Proof.Sched.lean ====
/- The protocol: what paying each due hands over. -/
module

public import proofs.«01_k».proof.Proof.Cells

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

instance bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => rw [bigSepL_nil]; exact (inferInstance : BI.Storable (upEmb : UEmb _ 𝕄) iprop(emp))
  | cons i l ih => rw [bigSepL_cons']; infer_instance

instance win_storable {s : Shape} (c : Dev nD) (M : Memref sig .tc .vmem s .f32) (r : Rect s) (w : r.shape.Idx → Elt F .f32) :
    BI.Storable (upEmb : UEmb _ 𝕄) (win c M r w) := by unfold win; infer_instance
instance winE_storable {s : Shape} (c : Dev nD) (M : Memref sig .tc .vmem s .f32) (r : Rect s) :
    BI.Storable (upEmb : UEmb _ 𝕄) (winE (F := F) c M r) := by unfold winE; infer_instance

variable (fA : CA F) (fB : CB F)

/-- The chunks and transfers going left (`true`) or right (`false`). -/
def going (b : Bool) : Finset (Fin 3 × Fin 8) := Finset.univ.filter fun x => toL x.1 x.2 = b

/-- The rows of core `s` that its neighbour writes by the transfers going one way. -/
def lend (s : Dev nD) (b : Bool) : sProp 𝕄 := bigSep (going b) fun x => rowE (F := F) s (dstM x.1) x.2
/-- The slots of core `s` that a core of plane `z` writes. -/
def lendZ (s : Dev nD) (z : Fin 4) : sProp 𝕄 := bigSepL qs fun q => slotE (F := F) s E0.zv q z

/-- What core `c` takes with a due of one of its semaphores. -/
def pay (c : Dev nD) : Cl → Fin 5 → sProp 𝕄
  | .bar, 0 => lend (lft c) true
  | .bar, 1 => lend (rgt c) false
  | .bar, 2 => lendZ (zf 0 c) (pz c)
  | .bar, 3 => lendZ (zf 1 c) (pz c)
  | .bar, 4 => lendZ (zf 2 c) (pz c)
  | .pl true m q, _ => rowE c (srcM m) q
  | .pl false m q, _ => row c (dstM m) q (cnt fA fB m (sdr m q c) q)
  | .zs j e, _ => duoE c E0.ps j (zp e c)
  | .zr j z, _ => duo c E0.zv j z (zsv fA fB c z)

instance pay_storable (c : Dev nD) (k : Cl) (d : Fin 5) : BI.Storable (upEmb : UEmb _ 𝕄) (pay fA fB c k d) := by
  unfold pay lend lendZ
  split <;> infer_instance

/-- The dues of a semaphore: none on the one that would receive from the own plane. -/
def dues (c : Dev nD) : Cl → Finset (Fin 5)
  | .bar => Finset.univ
  | .zr _ z => if z = pz c then ∅ else {0}
  | _ => {0}

/-- The protocol: one round, at every semaphore. -/
def Rd : Rounds.Schedule (GSem nD τ sig) (Fin 5) 𝕄 where
  duties g r := if r = 0 ∧ g.1.2 = .tc then (match dec g.2 with | some k => dues g.1.1 k | none => ∅) else ∅
  unitless _ := False
  amount g _ _ := match dec g.2 with | some k => amt k | none => 1
  payload g _ d := match dec g.2 with | some k => pay fA fB g.1.1 k d | none => iprop(emp)
  amount_pos g _ _ _ := by
    split
    · exact amt_pos _
    · exact Nat.one_pos

instance Rd_storable (g : GSem nD τ sig) (r : ℕ) (d : Fin 5) : BI.Storable (upEmb : UEmb _ 𝕄) ((Rd fA fB).payload g r d) := by
  show BI.Storable upEmb (match dec g.2 with | some k => pay fA fB g.1.1 k d | none => iprop(emp))
  split <;> infer_instance

theorem duties_at (x : Dev nD × Cl) : (Rd fA fB).duties (kcell x) 0 = dues x.1 x.2 := by
  dsimp only [Rd]
  rw [if_pos ⟨rfl, rfl⟩, dec_csem]
theorem duties_later (g : GSem nD τ sig) : ∀ r, 1 ≤ r → (Rd fA fB).duties g r = ∅ := fun r hr => by
  dsimp only [Rd]; rw [if_neg fun h => by omega]
theorem amount_at (x : Dev nD × Cl) (r : ℕ) (d : Fin 5) : (Rd fA fB).amount (kcell x) r d = amt x.2 := by
  show (match dec (csem x.2) with | some k => amt k | none => 1) = _
  rw [dec_csem]
theorem payload_at (x : Dev nD × Cl) (r : ℕ) (d : Fin 5) : (Rd fA fB).payload (kcell x) r d = pay fA fB x.1 x.2 d := by
  show (match dec (csem x.2) with | some k => pay fA fB x.1 k d | none => iprop(emp)) = _
  rw [dec_csem]
theorem expect_at (x : Dev nD × Cl) : (Rd fA fB).expect (kcell x) 0 = (dues x.1 x.2).card * amt x.2 := by
  unfold Schedule.expect Schedule.amountOf
  rw [duties_at, Finset.sum_congr rfl fun d _ => amount_at fA fB x 0 d, Finset.sum_const, smul_eq_mul]
theorem rest_at (x : Dev nD × Cl) : bigSep ((Rd fA fB).duties (kcell x) 0 \ ∅) (fun d => (Rd fA fB).payload (kcell x) 0 d)
    = bigSep (dues x.1 x.2) fun d => pay fA fB x.1 x.2 d := by
  rw [Finset.sdiff_empty, duties_at]
  exact BI.bigSep_congr fun d _ => payload_at fA fB x 0 d

theorem due_mem (o : Ob) (c : Dev nD) : due o ∈ dues (item o c).1 (item o c).2 := by
  match o with
  | .gr i => exact Finset.mem_univ _
  | .pl m q => exact Finset.mem_singleton_self _
  | .zz j e =>
    show (0 : Fin 5) ∈ (if pz c = pz (zt e c) then ∅ else {0})
    rw [if_neg (pz_ne_zt e c)]
    exact Finset.mem_singleton_self _

/-! ## What every core knows and what it has -/

variable (K : Dev nD × Cl → ℕ)

/-- The semaphores' invariants and that each is in its round, on every core. -/
def recs : sProp 𝕄 := bigSep Finset.univ fun x => iprop(cellInv ER (Rd fA fB) (K x) (kcell x) ∗ reached ER (kcell x) 0)
instance recs_persistent : BI.Persistent (recs fA fB K) := by unfold recs; infer_instance
/-- The semaphores' levels. -/
def levs : sProp 𝕄 := levAts L lv
instance levs_persistent : BI.Persistent (levs (F := F)) := by unfold levs; infer_instance
theorem levs_wait (c : Dev nD) (k : Cl) (l : List Ob) (h : ∀ o ∈ l, lvl k < lvO o) :
    levs (F := F) ⊢ MayWait (c : Thread nD τ) (csem k) () (owedL c l) :=
  mayWait_of c (csem k) l fun o ho => (lv_kcell (c, k)).trans_lt (h o ho)
/-- What every core knows. -/
def know : sProp 𝕄 := iprop(recs fA fB K ∗ levs)
instance know_persistent : BI.Persistent (know fA fB K) := by unfold know; infer_instance

theorem know_inv (x : Dev nD × Cl) : know fA fB K ⊢ cellInv ER (Rd fA fB) (K x) (kcell x) := by
  unfold know recs
  iintro ⟨H, -⟩
  ihave H := (show _ ⊢ iprop(cellInv ER (Rd fA fB) (K x) (kcell x) ∗ reached ER (kcell x) 0) from by classical exact BI.bigSep_elim (Finset.mem_univ x)) $$ H
  icases H with ⟨H, -⟩
  iexact H
theorem know_reached (x : Dev nD × Cl) : know fA fB K ⊢ reached ER (kcell x) 0 := by
  unfold know recs
  iintro ⟨H, -⟩
  ihave H := (show _ ⊢ iprop(cellInv ER (Rd fA fB) (K x) (kcell x) ∗ reached ER (kcell x) 0) from by classical exact BI.bigSep_elim (Finset.mem_univ x)) $$ H
  icases H with ⟨-, H⟩
  iexact H
theorem know_wait (c : Dev nD) (k : Cl) (l : List Ob) (h : ∀ o ∈ l, lvl k < lvO o) :
    know fA fB K ⊢ MayWait (c : Thread nD τ) (csem k) () (owedL c l) := by
  unfold know
  iintro ⟨-, H⟩
  iapply (levs_wait c k l h)
  iexact H

/-- What a core still owes. -/
def owe (c : Dev nD) (l : List Ob) : sProp 𝕄 := iprop(∃ W, owes (c : Thread nD τ) (owedL c l) W)
/-- The right to pay a due, -/
def tok (c : Dev nD) (o : Ob) : sProp 𝕄 := dutyTok ER (kcell (item o c)) 0 (due o)
/-- to have a semaphore of one's own told that a copy has left, -/
def tokS (c : Dev nD) (k : Cl) : sProp 𝕄 := dutyTok ER (kcell (c, k)) 0 0
/-- one's place at a semaphore, -/
def place (c : Dev nD) (k : Cl) : sProp 𝕄 := atPos ER (kcell (c, k)) 0 ∅ 0
/-- and the credit of what will arrive there. -/
def crd (c : Dev nD) (k : Cl) : sProp 𝕄 := cred (tallyAt (kcell (c, k)) () (amt k))
/-- A semaphore done with. -/
def idle (c : Dev nD) (k : Cl) : sProp 𝕄 := semVal (kcell (c, k)) 0

theorem slab_credit (m : Fin 3) (q : Fin 8) : (slab (srcM m) q).view.dmaCredit = nS ∧ (slab (dstM m) q).view.dmaCredit = nS := by
  match m with
  | 0 => exact ⟨rfl, rfl⟩
  | 1 => exact ⟨rfl, rfl⟩
  | 2 => exact ⟨rfl, rfl⟩
theorem twin_credit (off : Fin 4 → Nat) (h : ∀ a, off a + S2x1x64x128.size a ≤ S8x4x64x128.size a) :
    (twin E0.ps off h).view.dmaCredit = nZ ∧ (twin E0.zv off h).view.dmaCredit = nZ := ⟨rfl, rfl⟩

end Cert.KernelIdeal.Rs
-- ==== Proof.Local.lean ====
/- The rules of the steps on a core's own memory. -/
module

public import proofs.«01_k».proof.Proof.Sched

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

variable (fA : CA F) (fB : CB F)

/-- A core's blocks of the two arguments, staged. -/
def inA (c : Dev nD) : sProp 𝕄 := iprop((c : Thread nD τ).loc cc0_stg0_0 ↦{fullShare} fA c)
def inB (c : Dev nD) : sProp 𝕄 := iprop((c : Thread nD τ).loc cc0_stg1_0 ↦{fullShare} fB c)

theorem slot_load (c : Dev nD) (M : Buf4) (q : Fin 8) (z : Fin 4) (w : Sv F) {off : Fin 4 → Nat}
    (h : ∀ a, off a + S1x1x64x128.size a ≤ S8x4x64x128.size a) (ho : off = ![q.val, z.val, 0, 0])
    (hl : M.view.LoadsAt (Rect.unit (s := S8x4x64x128) off S1x1x64x128.size h).toLoadRect) (k : ((Rect.unit (s := S8x4x64x128) off S1x1x64x128.size h).shape.Idx → Elt F .f32) → Pr F) (Q : PUnit → sProp 𝕄) :
    iprop(slot c M q z w ∗ (slot c M q z w -∗ WP c (k w) Q))
      ⊢ WP c (.op (.load M (Rect.unit (s := S8x4x64x128) off S1x1x64x128.size h).toLoadRect hl) k) Q := by
  subst ho
  exact win_load c M (slotR q z) w hl k Q

theorem part_step (c : Dev nD) (M : Buf4) (w : Fin 4) (q : Fin 8) (z : Fin 4) :
    iprop((inA fA c ∗ inB fB c) ∗ slotE c M q z) ⊢ WP c (part E0 c M w q z) fun _ => iprop((inA fA c ∗ inB fB c) ∗ slot c M q z (prt fA fB w c q z)) := by
  unfold part inA inB
  iintro ⟨⟨HA, HB⟩, HM⟩
  iapply (wp_load_rect 𝒱₀ (c : Thread nD τ) none Set.univ (m := E0.a) (r := aR w z c) (f := fA c) (q := fullShare) (Finset.subset_univ _)) $$ HA
  iintro HA
  iapply (wp_load_rect 𝒱₀ (c : Thread nD τ) none Set.univ (m := E0.b) (r := bR q) (f := fB c) (q := fullShare) (Finset.subset_univ _)) $$ HB
  iintro HB
  iapply (winE_load c M (slotR q z))
  isplitl [HM]; · iexact HM
  iintro HM
  iapply (winE_store c M (slotR q z))
  isplitl [HM]; · iexact HM
  iintro HM
  iapply (wp_done c PUnit.unit fun _ => _)
  isplitl [HA HB]
  · isplitl [HA]; · iexact HA
    iexact HB
  iexact HM

theorem addC_step (c : Dev nD) (q : Fin 8) (z : Fin 4) (v v' : Sv F) :
    iprop(slot c E0.sc q z v ∗ slot c E0.rr q z v') ⊢ WP c (addC E0 q z) fun _ => iprop(slot c E0.sc q z (k0_pay81 v v') ∗ slot c E0.rr q z v') := by
  unfold addC
  iintro ⟨H, H'⟩
  iapply (win_load c E0.sc (slotR q z) v)
  isplitl [H]; · iexact H
  iintro H
  iapply (win_load c E0.rr (slotR q z) v')
  isplitl [H']; · iexact H'
  iintro H'
  ihave H := (win_forget c E0.sc (slotR q z) v) $$ H
  iapply (winE_load c E0.sc (slotR q z))
  isplitl [H]; · iexact H
  iintro H
  iapply (winE_store c E0.sc (slotR q z))
  isplitl [H]; · iexact H
  iintro H
  iapply (wp_done c PUnit.unit fun _ => _)
  isplitl [H]; · iexact H
  iexact H'

theorem addP_step (c : Dev nD) (q : Fin 8) (z : Fin 4) (v v' v'' : Sv F) :
    iprop(slot c E0.ps q z v ∗ slot c E0.rd q z v' ∗ slot c E0.rc q z v'') ⊢ WP c (addP E0 q z) fun _ =>
      iprop(slot c E0.ps q z (k0_pay209 v v' v'') ∗ slot c E0.rd q z v' ∗ slot c E0.rc q z v'') := by
  unfold addP
  iintro ⟨H, H', H''⟩
  iapply (win_load c E0.ps (slotR q z) v)
  isplitl [H]; · iexact H
  iintro H
  iapply (win_load c E0.rd (slotR q z) v')
  isplitl [H']; · iexact H'
  iintro H'
  iapply (win_load c E0.rc (slotR q z) v'')
  isplitl [H'']; · iexact H''
  iintro H''
  ihave H := (win_forget c E0.ps (slotR q z) v) $$ H
  iapply (winE_load c E0.ps (slotR q z))
  isplitl [H]; · iexact H
  iintro H
  iapply (winE_store c E0.ps (slotR q z))
  isplitl [H]; · iexact H
  iintro H
  iapply (wp_done c PUnit.unit fun _ => _)
  isplitl [H]; · iexact H
  isplitl [H']; · iexact H'
  iexact H''

/-- What a core reads for a chunk of the result: its own plane's sum and the three that arrived. -/
def sums (c : Dev nD) (q : Fin 8) : sProp 𝕄 :=
  iprop(slot c E0.ps q (pz c) (pls fA fB c q (pz c)) ∗ slot c E0.zv q (zp 0 c) (zsv fA fB c (zp 0 c) q)
    ∗ slot c E0.zv q (zp 1 c) (zsv fA fB c (zp 1 c) q) ∗ slot c E0.zv q (zp 2 c) (zsv fA fB c (zp 2 c) q))

theorem outQ_step (c : Dev nD) (q : Fin 8) :
    iprop(sums fA fB c q ∗ winE c E0.o (oR q)) ⊢ WP c (outQ E0 c q) fun _ => iprop(sums fA fB c q ∗ win c E0.o (oR q) (res fA fB c q)) := by
  unfold outQ sums
  iintro ⟨⟨H, H0, H1, H2⟩, HO⟩
  iapply (slot_load c E0.ps q (pz c) _ (psOff_inb q c) (psOff_eq q c))
  isplitl [H]; · iexact H
  iintro H
  iapply (slot_load c E0.zv q (zp 0 c) _ (zvOff_inb q 0 c) (zvOff_eq q 0 c))
  isplitl [H0]; · iexact H0
  iintro H0
  iapply (slot_load c E0.zv q (zp 1 c) _ (zvOff_inb q 1 c) (zvOff_eq q 1 c))
  isplitl [H1]; · iexact H1
  iintro H1
  iapply (slot_load c E0.zv q (zp 2 c) _ (zvOff_inb q 2 c) (zvOff_eq q 2 c))
  isplitl [H2]; · iexact H2
  iintro H2
  iapply (winE_load c E0.o (oR q))
  isplitl [HO]; · iexact HO
  iintro HO
  iapply (winE_store c E0.o (oR q))
  isplitl [HO]; · iexact HO
  iintro HO
  iapply (wp_done c PUnit.unit fun _ => _)
  isplitl [H H0 H1 H2]
  · isplitl [H]; · iexact H
    isplitl [H0]; · iexact H0
    isplitl [H1]; · iexact H1
    iexact H2
  iexact HO

end Cert.KernelIdeal.Rs
-- ==== Proof.Talk.lean ====
/- The rules of the steps by which the cores talk: signals, waits and copies. -/
module

public import proofs.«01_k».proof.Proof.Local

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## Blocks of unknown contents -/

theorem winE_intro {s : Shape} (c : Dev nD) (M : Memref sig .tc .vmem s .f32) (r : Rect s) :
    winE (F := F) c M r ⊢ (iprop(∃ w, win c M r w) : sProp 𝕄) := by
  unfold win winE
  iintro ⟨%f, H⟩
  iexists _
  iexists f
  isplitr
  · ipureintro; rfl
  iexact H

theorem row_forget (c : Dev nD) (M : Buf4) (q : Fin 8) (w : Fin 4 → Sv F) : row c M q w ⊢ rowE (F := F) c M q :=
  bigSepL_mono (l := zs) fun z _ => win_forget c M _ _
theorem duo_forget (c : Dev nD) (M : Buf4) (j z : Fin 4) (w : Fin 8 → Sv F) : duo c M j z w ⊢ duoE (F := F) c M j z :=
  bigSepL_mono (l := pair j) fun q _ => win_forget c M _ _

theorem rowE_intro (c : Dev nD) (M : Buf4) (q : Fin 8) : rowE (F := F) c M q ⊢ (iprop(∃ w, row c M q w) : sProp 𝕄) := by
  refine (bigSepL_mono (l := zs) fun z _ => winE_intro c M (slotR q z)).trans ?_
  simp only [bigSepL_cons', bigSepL_nil]
  iintro ⟨⟨%w0, H0⟩, ⟨%w1, H1⟩, ⟨%w2, H2⟩, ⟨%w3, H3⟩, -⟩
  iexists fun z : Fin 4 => match z with | 0 => w0 | 1 => w1 | 2 => w2 | 3 => w3
  isplitl [H0]; · iexact H0
  isplitl [H1]; · iexact H1
  isplitl [H2]; · iexact H2
  isplitl [H3]; · iexact H3
  iempintro

theorem tw_ne (j : Fin 4) : tw j 1 ≠ tw j 0 := by revert j; decide

theorem duoE_intro (c : Dev nD) (M : Buf4) (j z : Fin 4) : duoE (F := F) c M j z ⊢ (iprop(∃ w, duo c M j z w) : sProp 𝕄) := by
  refine (bigSepL_mono (l := pair j) fun q _ => winE_intro c M (slotR q z)).trans ?_
  unfold duo
  rw [pair_eq]
  simp only [bigSepL_cons', bigSepL_nil]
  iintro ⟨⟨%w0, H0⟩, ⟨%w1, H1⟩, -⟩
  iexists fun q : Fin 8 => if q = tw j 0 then w0 else w1
  dsimp only
  rw [if_pos rfl, if_neg (tw_ne j)]
  isplitl [H0]; · iexact H0
  isplitl [H1]; · iexact H1
  iempintro

/-! ## Waits -/

variable (fA : CA F) (fB : CB F) (K : Dev nD × Cl → ℕ)

/-- A wait for all that is due on a semaphore: what was paid there comes with it, and the semaphore is done with. -/
theorem wait_all (c : Dev nD) (k : Cl) (n : ℕ) (l : List Ob) (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (csem k) n Q)
    (hn : n = (dues c k).card * amt k) (hl : ∀ o ∈ l, lvl k < lvO o) :
    iprop(know fA fB K ∗ owe (F := F) c l ∗ cred (tallyAt (kcell (c, k)) () n) ∗ place (F := F) c k) ⊢ WP c (.op w .ret) fun _ =>
      iprop(owe c l ∗ idle c k ∗ bigSep (dues c k) fun d => pay fA fB c k d) := by
  unfold owe place idle
  iintro ⟨#HK, ⟨%W, HO⟩, Hc, Hat⟩
  iapply (Rounds.wp_wait_rest_token 𝒱₀ ER (Rd fA fB) (c : Thread nD τ) none (κ := K (c, k)) hw (Set.mem_univ _) ()
    (O := owedL c l) (W := W) (R := 0) (m := 0) (T := ∅) (by rw [Nat.zero_add, hn]; exact (expect_at fA fB (c, k)).symm)) $$ [Hc HO Hat]
  · isplitr; · iapply (know_inv fA fB K (c, k)); iexact HK
    isplitl [Hc]; · iexact Hc
    isplitl [HO]; · iexact HO
    isplitr
    · iapply (know_wait fA fB K c k l hl); iexact HK
    iexact Hat
  iintro ⟨HO, Hat, -, Hpay⟩
  ihave Hpay := (Entails.of_eq (rest_at fA fB (c, k))) $$ Hpay
  imod (Rounds.cell_close ER (Rd fA fB) (Set.mem_univ (K (c, k))) (fun h => h) (R := 0 + 1) (duties_later fA fB (kcell (c, k)))) $$ [Hat] with Hz
  · isplitr; · iapply (know_inv fA fB K (c, k)); iexact HK
    iexact Hat
  iapply (wp_done c PUnit.unit fun _ => _)
  isplitl [HO]
  · iexists _; iexact HO
  isplitl [Hz]; · iexact Hz
  iexact Hpay

theorem wait_one (c : Dev nD) (k : Cl) (n : ℕ) (l : List Ob) (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (csem k) n Q)
    (hn : n = amt k) (hd : dues c k = {0}) (hl : ∀ o ∈ l, lvl k < lvO o) :
    iprop(know fA fB K ∗ owe (F := F) c l ∗ crd (F := F) c k ∗ place (F := F) c k) ⊢ WP c (.op w .ret) fun _ =>
      iprop(owe c l ∗ idle c k ∗ pay fA fB c k 0) := by
  subst hn
  refine (wait_all fA fB K c k (amt k) l w hw (by rw [hd, Finset.card_singleton, Nat.one_mul]) hl).trans ?_
  rw [hd, bigSep_singleton]

theorem wait8_step (c : Dev nD) (s : Bool) (m : Fin 3) (q : Fin 8) (l : List Ob) (hl : ∀ o ∈ l, lvl (.pl s m q) < lvO o)
    (M : Buf4) :
    iprop(know fA fB K ∗ owe (F := F) c l ∗ crd (F := F) c (.pl s m q) ∗ place (F := F) c (.pl s m q))
      ⊢ WP c (wait8 (if s then sS m else sR m) M (if s then srcM m else dstM m) q) fun _ =>
      iprop(owe c l ∗ idle c (.pl s m q) ∗ pay fA fB c (.pl s m q) 0) := by
  refine wait_one fA fB K c (.pl s m q) nS l _ (fun Q => ?_) rfl rfl hl
  refine (wpE_waitDma2_eq 𝒱₀ (c : Thread nD τ) none Set.univ Q).trans ?_
  cases s
  · show waitSpec _ _ _ (slab (dstM m) q).view.dmaCredit Q = _
    rw [(slab_credit m q).2]; rfl
  · show waitSpec _ _ _ (slab (srcM m) q).view.dmaCredit Q = _
    rw [(slab_credit m q).1]; rfl

theorem waitZ_step (c : Dev nD) (j : Fin 4) (e : Fin 3) (l : List Ob) (hl : ∀ o ∈ l, 4 < lvO o) :
    iprop(know fA fB K ∗ owe (F := F) c l ∗ crd (F := F) c (.zr j (zp e c)) ∗ place (F := F) c (.zr j (zp e c))) ⊢ WP c (waitZ E0 c j e) fun _ =>
      iprop(owe c l ∗ idle c (.zr j (zp e c)) ∗ duo c E0.zv j (zp e c) (zsv fA fB c (zp e c))) := by
  refine wait_one fA fB K c (.zr j (zp e c)) nZ l _ (fun Q => ?_) rfl (if_neg (zp_ne e c)) hl
  refine (wpE_waitDma2_eq 𝒱₀ (c : Thread nD τ) none Set.univ Q).trans ?_
  have hs : ∀ (off : Fin 2 → Nat) (h : ∀ a, off a + S1x1.size a ≤ S4x4.size a), off = ![j.val, (zp e c).val] →
      SemLoc.dma (semZR E0.zR off h) = csem (.zr j (zp e c)) := by rintro _ h rfl; rfl
  rw [hs _ (zRwOff_inb j e c) (zRwOff_eq j e c)]
  rfl

theorem doneZ_step (c : Dev nD) (j : Fin 4) (e : Fin 3) (l : List Ob) (hl : ∀ o ∈ l, 0 < lvO o) :
    iprop(know fA fB K ∗ owe (F := F) c l ∗ crd (F := F) c (.zs j e) ∗ place (F := F) c (.zs j e)) ⊢ WP c (doneZ E0 c j e) fun _ =>
      iprop(owe c l ∗ idle c (.zs j e) ∗ duoE c E0.ps j (zp e c)) :=
  wait_one fA fB K c (.zs j e) nZ l _ (fun Q => wpE_waitDma2_eq 𝒱₀ (c : Thread nD τ) none Set.univ Q) rfl rfl hl

theorem waitB_step (c : Dev nD) (l : List Ob) (hl : ∀ o ∈ l, 1 < lvO o) :
    iprop(know fA fB K ∗ owe (F := F) c l ∗ cred (tallyAt (kcell (c, .bar)) () 5) ∗ place (F := F) c .bar) ⊢ WP c (semWaitWord barS 5#32) fun _ =>
      iprop(owe c l ∗ idle c .bar ∗ bigSep Finset.univ fun d => pay fA fB c .bar d) := by
  simp only [semWaitWord, Prog.lift, Prog.bind_op, Prog.bind_ret, Prog.pure_eq_ret]
  exact wait_all fA fB K c .bar 5 l _ (fun Q => wpE_semWait_eq 𝒱₀ (c : Thread nD τ) none Set.univ Q) rfl hl

/-- The semaphore that would receive from the own plane is not used. -/
theorem retire (c : Dev nD) (j : Fin 4) : iprop(know fA fB K ∗ place (F := F) c (.zr j (pz c))) ⊢ (iprop(|={Set.univ}=> idle c (.zr j (pz c))) : sProp 𝕄) := by
  have h : ∀ r, 0 ≤ r → (Rd fA fB).duties (kcell (c, .zr j (pz c))) r = ∅ := fun r _ => by
    match r with
    | 0 => exact (duties_at fA fB (c, .zr j (pz c))).trans (if_pos rfl)
    | r + 1 => exact duties_later fA fB _ _ (Nat.succ_pos r)
  unfold place idle
  iintro ⟨#HK, Hat⟩
  iapply (Rounds.cell_close ER (Rd fA fB) (Set.mem_univ (K (c, .zr j (pz c)))) (fun h => h) (R := 0) h)
  isplitr; · iapply (know_inv fA fB K (c, .zr j (pz c))); iexact HK
  iexact Hat

/-! ## Signals and copies -/

theorem signal_step (c : Dev nD) (i : Fin 5) (l : List Ob) :
    iprop(know fA fB K ∗ owe (F := F) c (.gr i :: l) ∗ tok (F := F) c (.gr i) ∗ pay fA fB (bt i c) .bar i)
      ⊢ WP c (semSignalWord (tgtB i c) barS 1#32) fun _ => owe c l := by
  simp only [semSignalWord, Prog.lift, Prog.bind_op, Prog.bind_ret, Prog.pure_eq_ret]
  rw [tgtB_eq]
  unfold owe tok
  iintro ⟨#HK, ⟨%W, HO⟩, Ht, Hp⟩
  iapply (Rounds.wp_signal 𝒱₀ ER (Rd fA fB) (c : Thread nD τ) none (dst := (bt i c : Thread nD τ)) (κ := K (bt i c, .bar)) (r := 0)
      (d := i) ((duties_at fA fB (bt i c, .bar)).symm ▸ Finset.mem_univ i) (amount_at fA fB (bt i c, .bar) 0 i) () (owedL c l) rfl)
    $$ [HO Ht Hp]
  · isplitr; · iapply (show know fA fB K ⊢ cellInv ER (Rd fA fB) (K (bt i c, .bar)) ((bt i c : Thread nD τ), .reg barS) from know_inv fA fB K (bt i c, .bar)); iexact HK
    isplitl [HO]; · iexact HO
    isplitl [Ht]
    · iapply (show (dutyTok ER (kcell (item (.gr i) c)) 0 (due (.gr i)) : sProp 𝕄) ⊢ dutyTok ER ((bt i c : Thread nD τ), .reg barS) 0 i from BI.Entails.refl _); iexact Ht
    isplitl [Hp]
    · iapply (show pay fA fB (bt i c) .bar i ⊢ (Rd fA fB).payload ((bt i c : Thread nD τ), .reg barS) 0 i from Entails.of_eq (payload_at fA fB (bt i c, .bar) 0 i).symm); iexact Hp
    iapply (show know fA fB K ⊢ reached ER ((bt i c : Thread nD τ), .reg barS) 0 from know_reached fA fB K (bt i c, .bar)); iexact HK
  iintro HO
  iapply (wp_done c PUnit.unit fun _ => _)
  iexists W
  iexact HO

theorem send_at (c : Dev nD) (m : Fin 3) (q : Fin 8) (l : List Ob) (n : Dev nD) (hn : n = tgt m q c)
    {hsc : (slab (dstM m) q).view.ref.isScScratch = false}
    {hsrc : (slab (srcM m) q).view.WordExact} {hdst : (slab (dstM m) q).view.WordExact}
    {hsem : DmaTarget.Typed .vmem (csem (.pl false m q)) (.remote (n : Thread nD τ) (slab (dstM m) q) (csem (.pl true m q)) hsc)} :
    iprop(know fA fB K ∗ owe (F := F) c (.pl m q :: l) ∗ tok (F := F) c (.pl m q) ∗ tokS (F := F) c (.pl true m q)
        ∗ row c (srcM m) q (cnt fA fB m c q) ∗ rowE (F := F) (tgt m q c) (dstM m) q)
      ⊢ WP c (.op (.enqueueDma (slab (srcM m) q) (.remote (n : Thread nD τ) (slab (dstM m) q) (csem (.pl true m q)) hsc) (csem (.pl false m q)) hsrc hdst hsem) .ret)
        fun _ => iprop(owe c l ∗ crd c (.pl true m q)) := by
  subst hn
  unfold owe tok tokS crd
  iintro ⟨#HK, ⟨%W, HO⟩, Ht, HtS, Hs, Hd⟩
  ihave Hs := (row_join c (srcM m) q (cnt fA fB m c q)) $$ Hs
  icases Hs with ⟨%f, %hf, Hs⟩
  ihave Hd := (rowE_intro (tgt m q c) (dstM m) q) $$ Hd
  icases Hd with ⟨%w, Hd⟩
  ihave Hd := (row_join (tgt m q c) (dstM m) q w) $$ Hd
  icases Hd with ⟨%g, -, Hd⟩
  iapply (Rounds.wp_send_pointsTo 𝒱₀ ER (Rd fA fB) (c : Thread nD τ) none (κ₁ := K (c, .pl true m q)) (κ₂ := K (tgt m q c, .pl false m q))
    (r₁ := 0) (r₂ := 0) (d₁ := 0) (d₂ := 0) (fs := f) (fd := g)
    ((duties_at fA fB (c, .pl true m q)).symm ▸ Finset.mem_singleton_self _) ((duties_at fA fB (tgt m q c, .pl false m q)).symm ▸ Finset.mem_singleton_self _)
    () () nS (show (slab (dstM m) q).view.amount (csem (.pl false m q)) = nS from (slab_credit m q).2) (amount_at fA fB (c, .pl true m q) 0 0) (amount_at fA fB (tgt m q c, .pl false m q) 0 0) (owedL c l) rfl (W := W)
    (((row_deal c (srcM m) q f).trans (row_forget c (srcM m) q _)).trans (Entails.of_eq (payload_at fA fB (c, .pl true m q) 0 0).symm))
    ((row_deal (tgt m q c) (dstM m) q _).trans (Entails.of_eq ((?_ : _ = pay fA fB (tgt m q c) (.pl false m q) 0).trans (payload_at fA fB (tgt m q c, .pl false m q) 0 0).symm))))
    $$ [HO Ht HtS Hs Hd]
  · show row (tgt m q c) (dstM m) q _ = row (tgt m q c) (dstM m) q (cnt fA fB m (sdr m q (tgt m q c)) q)
    rw [sdr_tgt]
    congr 1
    funext z
    exact (slab_copied (srcM m) (dstM m) q z f g).trans (hf z)
  · isplitr; · iapply (know_inv fA fB K (c, .pl true m q)); iexact HK
    isplitr; · iapply (know_inv fA fB K (tgt m q c, .pl false m q)); iexact HK
    isplitl [Hs]; · iexact Hs
    isplitl [Hd]; · iexact Hd
    isplitl [HO]; · iexact HO
    isplitl [HtS]; · iexact HtS
    isplitr; · iapply (know_reached fA fB K (c, .pl true m q)); iexact HK
    isplitl [Ht]; · iexact Ht
    iapply (know_reached fA fB K (tgt m q c, .pl false m q)); iexact HK
  iintro ⟨Hc, HO⟩
  iapply (wp_done c PUnit.unit fun _ => _)
  isplitl [HO]
  · iexists W; iexact HO
  iexact Hc

theorem send_step (c : Dev nD) (m : Fin 3) (q : Fin 8) (l : List Ob) (t : Fin 8 → Dev nD → Dev nD) (ht : t q c = tgt m q c) :
    iprop(know fA fB K ∗ owe (F := F) c (.pl m q :: l) ∗ tok (F := F) c (.pl m q) ∗ tokS (F := F) c (.pl true m q)
        ∗ row c (srcM m) q (cnt fA fB m c q) ∗ rowE (F := F) (tgt m q c) (dstM m) q)
      ⊢ WP c (send c (srcM m) (dstM m) (sS m) (sR m) t q) fun _ => iprop(owe c l ∗ crd c (.pl true m q)) :=
  send_at fA fB K c m q l (t q c) ht

/-- The step of `sendZ` with its slots and semaphore named. -/
theorem sendZ_at (c : Dev nD) (j : Fin 4) (e : Fin 3) (l : List Ob) {offS offD : Fin 4 → Nat}
    (hS : ∀ a, offS a + S2x1x64x128.size a ≤ S8x4x64x128.size a) (hD : ∀ a, offD a + S2x1x64x128.size a ≤ S8x4x64x128.size a)
    (n : Dev nD) (hn : n = zt e c) (sm : SemLoc sig) (hm : sm = csem (.zr j (pz c)))
    (eS : offS = ![2 * j.val, (zp e c).val, 0, 0]) (eD : offD = ![2 * j.val, (pz c).val, 0, 0])
    {hsc : (twin E0.zv offD hD).view.ref.isScScratch = false}
    {hsrc : (twin E0.ps offS hS).view.WordExact} {hdst : (twin E0.zv offD hD).view.WordExact}
    {hsem : DmaTarget.Typed .vmem sm (.remote (n : Thread nD τ) (twin E0.zv offD hD) (csem (.zs j e)) hsc)} :
    iprop(know fA fB K ∗ owe (F := F) c (.zz j e :: l) ∗ tok (F := F) c (.zz j e) ∗ tokS (F := F) c (.zs j e)
        ∗ duo c E0.ps j (zp e c) (fun q => pls fA fB c q (zp e c)) ∗ duoE (F := F) (zt e c) E0.zv j (pz c))
      ⊢ WP c (.op (.enqueueDma (twin E0.ps offS hS) (.remote (n : Thread nD τ) (twin E0.zv offD hD) (csem (.zs j e)) hsc) sm hsrc hdst hsem) .ret)
        fun _ => iprop(owe c l ∗ crd c (.zs j e)) := by
  subst hn hm
  unfold owe tok tokS crd
  iintro ⟨#HK, ⟨%W, HO⟩, Ht, HtS, Hs, Hd⟩
  ihave Hs := (duo_join (h := hS) c E0.ps (fun q => pls fA fB c q (zp e c)) eS) $$ Hs
  icases Hs with ⟨%f, %hf, Hs⟩
  ihave Hd := (duoE_intro (zt e c) E0.zv j (pz c)) $$ Hd
  icases Hd with ⟨%w, Hd⟩
  ihave Hd := (duo_join (h := hD) (zt e c) E0.zv w eD) $$ Hd
  icases Hd with ⟨%g, -, Hd⟩
  iapply (Rounds.wp_send_pointsTo 𝒱₀ ER (Rd fA fB) (c : Thread nD τ) none (κ₁ := K (c, .zs j e)) (κ₂ := K (zt e c, .zr j (pz c)))
    (r₁ := 0) (r₂ := 0) (d₁ := 0) (d₂ := 0) (fs := f) (fd := g)
    ((duties_at fA fB (c, .zs j e)).symm ▸ Finset.mem_singleton_self _)
    ((duties_at fA fB (zt e c, .zr j (pz c))).symm ▸ due_mem (.zz j e) c)
    () () nZ rfl (amount_at fA fB (c, .zs j e) 0 0) (amount_at fA fB (zt e c, .zr j (pz c)) 0 0) (owedL c l) rfl (W := W)
    (((duo_deal c E0.ps eS f).trans (duo_forget c E0.ps j (zp e c) _)).trans (Entails.of_eq (payload_at fA fB (c, .zs j e) 0 0).symm))
    ((duo_deal (zt e c) E0.zv eD _).trans (Entails.of_eq ((?_ : _ = pay fA fB (zt e c) (.zr j (pz c)) 0).trans (payload_at fA fB (zt e c, .zr j (pz c)) 0 0).symm))))
    $$ [HO Ht HtS Hs Hd]
  · show (bigSepL (pair j) (fun q => slot (zt e c) E0.zv q (pz c) _) : sProp 𝕄) = bigSepL (pair j) (fun q => slot (zt e c) E0.zv q (pz c) (zsv fA fB (zt e c) (pz c) q))
    rw [pair_eq]
    simp only [bigSepL_cons', bigSepL_nil]
    unfold zsv
    rw [pp_zt, mk_pz_pp, pz_zt, ← hf 0, ← hf 1, twin_copied E0.ps E0.zv eS eD 0 f g, twin_copied E0.ps E0.zv eS eD 1 f g]
  · isplitr; · iapply (know_inv fA fB K (c, .zs j e)); iexact HK
    isplitr; · iapply (know_inv fA fB K (zt e c, .zr j (pz c))); iexact HK
    isplitl [Hs]; · iexact Hs
    isplitl [Hd]; · iexact Hd
    isplitl [HO]; · iexact HO
    isplitl [HtS]; · iexact HtS
    isplitr; · iapply (know_reached fA fB K (c, .zs j e)); iexact HK
    isplitl [Ht]; · iexact Ht
    iapply (know_reached fA fB K (zt e c, .zr j (pz c))); iexact HK
  iintro ⟨Hc, HO⟩
  iapply (wp_done c PUnit.unit fun _ => _)
  isplitl [HO]
  · iexists W; iexact HO
  iexact Hc

theorem sendZ_step (c : Dev nD) (j : Fin 4) (e : Fin 3) (l : List Ob) :
    iprop(know fA fB K ∗ owe (F := F) c (.zz j e :: l) ∗ tok (F := F) c (.zz j e) ∗ tokS (F := F) c (.zs j e)
        ∗ duo c E0.ps j (zp e c) (fun q => pls fA fB c q (zp e c)) ∗ duoE (F := F) (zt e c) E0.zv j (pz c))
      ⊢ WP c (sendZ E0 c j e) fun _ => iprop(owe c l ∗ crd c (.zs j e)) := by
  have key : ∀ (off : Fin 2 → Nat) (h : ∀ a, off a + S1x1.size a ≤ S4x4.size a), off = ![j.val, (pz c).val] →
      SemLoc.dma (semZR E0.zR off h) = csem (.zr j (pz c)) := by rintro _ h rfl; rfl
  exact sendZ_at fA fB K c j e l _ _ _ (tgtZ_eq j e c) _ (key _ (zRsOff_inb j c) (zRsOff_eq j c)) (zsrcOff_eq j e c) (zdstOff_eq j c)

end Cert.KernelIdeal.Rs
-- ==== Proof.Lists.lean ====
/- Collections of separate things: how lists of them are regrouped, and the groupings the program needs. -/
module

public import proofs.«01_k».proof.Proof.Talk

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

section
variable {I J : Type}

theorem bsep_shuffle (P Q R S : sProp 𝕄) : (iprop((P ∗ Q) ∗ (R ∗ S)) : sProp 𝕄) = iprop((P ∗ R) ∗ (Q ∗ S)) := by
  refine Entails.antisymm (show iprop((P ∗ Q) ∗ R ∗ S) ⊢ iprop((P ∗ R) ∗ Q ∗ S) from ?_) (show iprop((P ∗ R) ∗ Q ∗ S) ⊢ iprop((P ∗ Q) ∗ R ∗ S) from ?_)
  all_goals
    iintro ⟨⟨H1, H2⟩, H3, H4⟩
    isplitl [H1 H3]
    · isplitl [H1] <;> iassumption
    · isplitl [H2] <;> iassumption

theorem bigSepL_both (l : List I) (Φ Ψ : I → sProp 𝕄) :
    (bigSepL l fun i => iprop(Φ i ∗ Ψ i)) = iprop(bigSepL l Φ ∗ bigSepL l Ψ) := by
  induction l with
  | nil =>
    simp only [bigSepL_nil]
    exact Entails.antisymm BI.emp_sep.2 BI.emp_sep.1
  | cons i l ih =>
    simp only [bigSepL_cons', ih]
    exact bsep_shuffle _ _ _ _

theorem bigSepL_flat (l : List I) (f : I → List J) (Φ : J → sProp 𝕄) :
    bigSepL (l.flatMap f) Φ = bigSepL l fun i => bigSepL (f i) Φ := by
  induction l with
  | nil => rfl
  | cons i l ih => rw [List.flatMap_cons, bigSepL_append, bigSepL_cons', ih]

theorem bigSepL_emps (l : List I) : (bigSepL l fun _ => (iprop(emp) : sProp 𝕄)) = iprop(emp) := by
  induction l with
  | nil => rfl
  | cons i l ih => rw [bigSepL_cons', ih]; exact Entails.antisymm BI.emp_sep.1 BI.emp_sep.2

theorem bigSepL_swap (l : List I) (l' : List J) (Φ : I → J → sProp 𝕄) :
    (bigSepL l fun i => bigSepL l' (Φ i)) = bigSepL l' fun j => bigSepL l fun i => Φ i j := by
  induction l with
  | nil => exact (bigSepL_emps l').symm
  | cons i l ih =>
    rw [bigSepL_cons', ih, ← bigSepL_both]
    simp only [bigSepL_cons']
end

theorem qs_flat : qs = js.flatMap pair := by decide
/-- Chunk by chunk is pair by pair. -/
theorem by_pairs (Φ : Fin 8 → sProp 𝕄) : bigSepL qs Φ = bigSepL js fun j => bigSepL (pair j) Φ := by rw [qs_flat, bigSepL_flat]

theorem planes_univ (c : Dev nD) : (Finset.univ : Finset (Fin 4)) = (pz c :: ds.map fun e => zp e c).toFinset := by
  revert c; decide +kernel
theorem planes_nodup (c : Dev nD) : (pz c :: ds.map fun e => zp e c).Nodup := by revert c; decide +kernel

/-- Over the planes is over the own one and the three others. -/
theorem by_planes (c : Dev nD) (Φ : Fin 4 → sProp 𝕄) : bigSepL zs Φ = iprop(Φ (pz c) ∗ bigSepL ds fun e => Φ (zp e c)) := by
  rw [← bigSep_univ_eq_bigSepL zs zs_univ (by decide) Φ, bigSep_univ_eq_bigSepL _ (planes_univ c) (planes_nodup c) Φ, bigSepL_cons', bigSepL_map]

abbrev ms : List (Fin 3) := [0, 1, 2]

theorem by_rows (Φ : Fin 3 × Fin 8 → sProp 𝕄) : bigSep Finset.univ Φ = bigSepL ms fun m => bigSepL qs fun q => Φ (m, q) := by
  rw [BI.bigSep_univ_prod, bigSep_univ_eq_bigSepL ms (by decide) (by decide)]
  simp only [bigSep_univ_eq_bigSepL qs (by decide) (by decide)]
theorem by_pairs_planes (Φ : Fin 4 × Fin 3 → sProp 𝕄) : bigSep Finset.univ Φ = bigSepL js fun j => bigSepL ds fun e => Φ (j, e) := by
  rw [BI.bigSep_univ_prod, bigSep_univ_eq_bigSepL js (by decide) (by decide)]
  simp only [bigSep_univ_eq_bigSepL ds (by decide) (by decide)]

/-- A core's semaphores, grouped. -/
theorem by_cells (c : Dev nD) (Φ : Cl → sProp 𝕄) : bigSep Finset.univ Φ
    = iprop(Φ .bar ∗ ((bigSepL ms fun m => bigSepL qs fun q => Φ (.pl true m q)) ∗ (bigSepL ms fun m => bigSepL qs fun q => Φ (.pl false m q)))
      ∗ (bigSepL js fun j => bigSepL ds fun e => Φ (.zs j e)) ∗ (bigSepL js fun j => Φ (.zr j (pz c)))
      ∗ (bigSepL js fun j => bigSepL ds fun e => Φ (.zr j (zp e c)))) := by
  rw [BI.bigSep_univ_sum, BI.bigSep_univ_sum, BI.bigSep_univ_sum, by_pairs_planes, BI.bigSep_univ_prod,
    bigSep_univ_eq_bigSepL [true, false] (by decide) (by decide)]
  simp only [by_rows]
  rw [BI.bigSep_univ_prod, bigSep_univ_eq_bigSepL js (by decide) (by decide), bigSep_univ_eq_bigSepL [()] (by decide) (by decide)]
  have h : ∀ j : Fin 4, bigSep Finset.univ (fun z : Fin 4 => Φ (.zr j z)) = iprop(Φ (.zr j (pz c)) ∗ bigSepL ds fun e => Φ (.zr j (zp e c))) :=
    fun j => (bigSep_univ_eq_bigSepL zs zs_univ (by decide) _).trans (by_planes c _)
  simp only [h, bigSepL_both]
  rfl

/-- And its dues. -/
theorem by_dues (Φ : Ob → sProp 𝕄) : bigSep Finset.univ Φ
    = iprop((bigSepL [0, 1, 2, 3, 4] fun i => Φ (.gr i)) ∗ (bigSepL ms fun m => bigSepL qs fun q => Φ (.pl m q))
      ∗ (bigSepL js fun j => bigSepL ds fun e => Φ (.zz j e))) := by
  rw [BI.bigSep_univ_sum, BI.bigSep_univ_sum, bigSep_univ_eq_bigSepL [0, 1, 2, 3, 4] (by decide) (by decide), by_rows, by_pairs_planes]
  rfl

/-! ## What is lent and what is got -/

variable (fA : CA F) (fB : CB F)

/-- A core lends its receive buffers to its neighbours; -/
theorem lend_all (s : Dev nD) : (bigSepL ms fun m => bigSepL qs fun q => rowE (F := F) s (dstM m) q) = iprop(lend s true ∗ lend s false) := by
  rw [← by_rows fun x => rowE (F := F) s (dstM x.1) x.2, BI.bigSep_filter_split Finset.univ fun x : Fin 3 × Fin 8 => toL x.1 x.2 = true]
  unfold lend going
  rw [show (Finset.univ.filter fun x : Fin 3 × Fin 8 => ¬ toL x.1 x.2 = true) = Finset.univ.filter fun x : Fin 3 × Fin 8 => toL x.1 x.2 = false from by decide]
  rfl

/-- and gets from them the ones it writes. -/
theorem lent_all (c : Dev nD) : iprop(lend (F := F) (lft c) true ∗ lend (F := F) (rgt c) false)
    = bigSepL ms fun m => bigSepL qs fun q => rowE (F := F) (tgt m q c) (dstM m) q := by
  rw [← by_rows fun x => rowE (F := F) (tgt x.1 x.2 c) (dstM x.1) x.2, BI.bigSep_filter_split Finset.univ fun x : Fin 3 × Fin 8 => toL x.1 x.2 = true]
  unfold lend going
  rw [show (Finset.univ.filter fun x : Fin 3 × Fin 8 => ¬ toL x.1 x.2 = true) = Finset.univ.filter fun x : Fin 3 × Fin 8 => toL x.1 x.2 = false from by decide]
  refine congrArg₂ BI.sep ?_ ?_
  · refine BI.bigSep_congr fun x hx => ?_
    rw [tgt, if_pos (Finset.mem_filter.mp hx).2]
  · refine BI.bigSep_congr fun x hx => ?_
    rw [tgt, if_neg (by rw [(Finset.mem_filter.mp hx).2]; decide)]

theorem zf_eq (c : Dev nD) : zf 0 c = zt 2 c ∧ zf 1 c = zt 1 c ∧ zf 2 c = zt 0 c := by revert c; decide +kernel

/-- What the five greetings bring. -/
theorem greeted (c : Dev nD) : bigSep Finset.univ (fun d => pay fA fB c .bar d)
    ⊢ iprop((bigSepL ms fun m => bigSepL qs fun q => rowE (F := F) (tgt m q c) (dstM m) q)
      ∗ bigSepL js fun j => bigSepL ds fun e => duoE (F := F) (zt e c) E0.zv j (pz c)) := by
  have h : (bigSepL js fun j => bigSepL ds fun e => duoE (F := F) (zt e c) E0.zv j (pz c)) = bigSepL ds fun e => lendZ (F := F) (zt e c) (pz c) := by
    rw [← bigSepL_swap]
    unfold lendZ
    simp only [by_pairs]
  rw [h, ← lent_all, bigSep_univ_eq_bigSepL [0, 1, 2, 3, 4] (by decide) (by decide)]
  simp only [bigSepL_cons', bigSepL_nil]
  unfold pay
  obtain ⟨h0, h1, h2⟩ := zf_eq c
  rw [h0, h1, h2]
  iintro ⟨Ha, Hb, H0, H1, H2, -⟩
  isplitl [Ha Hb]
  · isplitl [Ha] <;> iassumption
  isplitl [H2]; · iexact H2
  isplitl [H1]; · iexact H1
  isplitl [H0]; · iexact H0
  iempintro

/-- What a core greets with. -/
theorem greets (c : Dev nD) :
    iprop((bigSepL ms fun m => bigSepL qs fun q => rowE (F := F) c (dstM m) q) ∗ bigSepL ds fun e => lendZ (F := F) c (zp e c))
      ⊢ bigSepL [0, 1, 2, 3, 4] fun i => pay fA fB (bt i c) .bar i := by
  rw [lend_all]
  simp only [bigSepL_cons', bigSepL_nil]
  unfold pay
  simp only [bt, lft_rgt, rgt_lft, zf_zt, pz_zt]
  iintro ⟨⟨Ha, Hb⟩, H0, H1, H2, -⟩
  isplitl [Ha]; · iexact Ha
  isplitl [Hb]; · iexact Hb
  isplitl [H0]; · iexact H0
  isplitl [H1]; · iexact H1
  isplitl [H2]; · iexact H2
  iempintro

end Cert.KernelIdeal.Rs
-- ==== Proof.Phases.lean ====
/- The parts of a core's program, one after the other. -/
module

public import proofs.«01_k».proof.Proof.Lists

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

variable (fA : CA F) (fB : CB F) (K : Dev nD × Cl → ℕ)

/-- The core's blocks of the two arguments; -/
def args (c : Dev nD) : sProp 𝕄 := iprop(inA fA c ∗ inB fB c)
/-- what it knows, and what it owes. -/
def st (c : Dev nD) (l : List Ob) : sProp 𝕄 := iprop(know fA fB K ∗ owe c l)

variable {fA fB K}

theorem st_use {c : Dev nD} {p : Pr F} {l l' : List Ob} {P Q : sProp 𝕄}
    (h : iprop(know fA fB K ∗ owe (F := F) c l ∗ P) ⊢ WP c p fun _ => iprop(owe c l' ∗ Q)) :
    iprop(st fA fB K c l ∗ P) ⊢ WP c p fun _ => iprop(st fA fB K c l' ∗ Q) := by
  unfold st
  iintro ⟨⟨#HK, HO⟩, HP⟩
  iapply (wp_use c h)
  isplitl [HO HP]
  · isplitr; · iexact HK
    isplitl [HO] <;> iassumption
  iintro %_ ⟨HO, HQ⟩
  isplitl [HO]
  · isplitr; · iexact HK
    iexact HO
  iexact HQ

variable (fA fB K)

/-! ## The greetings -/

theorem sigs_step (c : Dev nD) (r : List Ob) :
    iprop(st fA fB K c (obB ++ r) ∗ bigSepL [0, 1, 2, 3, 4] fun i => iprop(tok (F := F) c (.gr i) ∗ pay fA fB (bt i c) .bar i)) ⊢ WP c (sigs c) fun _ =>
      st fA fB K c r := by
  refine (wp_forL c (fun l => st fA fB K c (l.map Ob.gr ++ r)) _ (fun _ => iprop(emp)) _ _ fun i l _ => st_use ?_).trans (wp_mono _ _ _ fun _ => ?_)
  · refine (signal_step fA fB K c i (l.map Ob.gr ++ r)).trans (wp_mono _ _ _ fun _ => BI.sep_emp.2)
  · show iprop(st fA fB K c r ∗ bigSepL _ _) ⊢ _
    rw [bigSepL_emps]
    exact BI.sep_emp.1

/-! ## The products -/

theorem fill_step (c : Dev nD) (M : Buf4) (w : Fin 8 → Fin 4) (l : List (Fin 8)) :
    iprop(args fA fB c ∗ bigSepL l fun q => rowE (F := F) c M q) ⊢ WP c (forL l fun q => forL zs fun z => part E0 c M (w q) q z) fun _ =>
      iprop(args fA fB c ∗ bigSepL l fun q => row c M q (prt fA fB (w q) c q)) :=
  wp_forLK c (args fA fB c) _ _ _ l fun q => wp_forLK c (args fA fB c) _ _ _ zs fun z => part_step fA fB c M (w q) q z

/-! ## The transfers on the plane -/

/-- What a transfer takes beside its contents: the rights to pay, and where it goes. -/
def way (c : Dev nD) (m : Fin 3) (q : Fin 8) : sProp 𝕄 :=
  iprop(tok c (.pl m q) ∗ tokS c (.pl true m q) ∗ rowE (tgt m q c) (dstM m) q)
/-- What a wait takes. -/
def due1 (c : Dev nD) (k : Cl) : sProp 𝕄 := iprop(crd c k ∗ place c k)

theorem send_way (c : Dev nD) (m : Fin 3) (q : Fin 8) (r : List Ob) (t : Fin 8 → Dev nD → Dev nD) (ht : t q c = tgt m q c) :
    iprop(st fA fB K c (.pl m q :: r) ∗ row c (srcM m) q (cnt fA fB m c q) ∗ way (F := F) c m q)
      ⊢ WP c (send c (srcM m) (dstM m) (sS m) (sR m) t q) fun _ => iprop(st fA fB K c r ∗ crd c (.pl true m q)) := by
  refine st_use (.trans ?_ (send_step fA fB K c m q r t ht))
  unfold way
  iintro ⟨#HK, HO, Hs, Ht, HtS, Hd⟩
  isplitr; · iexact HK
  isplitl [HO]; · iexact HO
  isplitl [Ht]; · iexact Ht
  isplitl [HtS]; · iexact HtS
  isplitl [Hs] <;> iassumption

theorem got_row (c : Dev nD) (m : Fin 3) (q : Fin 8) (r : List Ob) (hr : ∀ o ∈ r, lvl (.pl false m q) < lvO o) :
    iprop(st fA fB K c r ∗ due1 (F := F) c (.pl false m q))
      ⊢ WP c (wait8 (sR m) (srcM m) (dstM m) q) fun _ =>
      iprop(st fA fB K c r ∗ idle c (.pl false m q) ∗ row c (dstM m) q (cnt fA fB m (sdr m q c) q)) :=
  st_use (wait8_step fA fB K c false m q r hr (srcM m))

theorem sent_row (c : Dev nD) (m : Fin 3) (q : Fin 8) :
    iprop(st fA fB K c [] ∗ due1 (F := F) c (.pl true m q))
      ⊢ WP c (wait8 (sS m) (dstM m) (srcM m) q) fun _ =>
      iprop(st fA fB K c [] ∗ idle c (.pl true m q) ∗ rowE c (srcM m) q) :=
  st_use (wait8_step fA fB K c true m q [] (fun o ho => absurd ho List.not_mem_nil) (dstM m))

theorem sendR_step (c : Dev nD) (r : List Ob) :
    iprop(st fA fB K c (obR ++ r) ∗ bigSepL qs fun q => iprop(row c E0.sr q (prt fA fB 2 c q) ∗ way (F := F) c 0 q))
      ⊢ WP c (sendR E0 c) fun _ => iprop(st fA fB K c r ∗ bigSepL qs fun q => crd c (.pl true 0 q)) :=
  wp_forL c (fun l => st fA fB K c (l.map (Ob.pl 0) ++ r)) _ _ _ qs fun q l _ => send_way fA fB K c 0 q _ tgtR (tgtR_eq q c)

theorem combC_step (c : Dev nD) (q : Fin 8) (r : List Ob) (hr : ∀ o ∈ r, 2 < lvO o) :
    iprop(st fA fB K c (.pl 1 q :: r) ∗ row c E0.sc q (prt fA fB (wC q) c q) ∗ due1 (F := F) c (.pl false 0 q) ∗ way (F := F) c 1 q)
      ⊢ WP c (combC E0 c q) fun _ => iprop(st fA fB K c r ∗ idle c (.pl false 0 q) ∗ rowE c E0.rr q ∗ crd c (.pl true 1 q)) := by
  iintro ⟨HS, Hsc, Hd, Hw⟩
  iapply (wp_then c (got_row fA fB K c 0 q (.pl 1 q :: r) fun o ho => (List.mem_cons.mp ho).elim (fun e => e ▸ (by decide : (2 : ℕ) < 3)) (hr o)))
  isplitl [HS Hd]
  · isplitl [HS] <;> iassumption
  iintro %_ ⟨HS, Hi, Hrr⟩
  iapply (wp_then c (wp_forL' c (fun z => iprop(slot c E0.sc q z (prt fA fB (wC q) c q z) ∗ slot c E0.rr q z (prt fA fB 2 (sdr 0 q c) q z)))
    (fun z => iprop(slot c E0.sc q z (cmb fA fB c q z) ∗ slot c E0.rr q z (prt fA fB 2 (sdr 0 q c) q z))) (fun z => addC E0 q z) zs fun z => addC_step c q z _ _))
  rw [bigSepL_both, bigSepL_both]
  isplitl [Hsc Hrr]
  · isplitl [Hsc]; · iexact Hsc
    iexact Hrr
  iintro %_ ⟨Hsc, Hrr⟩
  iapply (wp_use c (send_way fA fB K c 1 q r tgtC (tgtC_eq q c)))
  isplitl [HS Hsc Hw]
  · isplitl [HS]; · iexact HS
    isplitl [Hsc]; · iexact Hsc
    iexact Hw
  iintro %_ ⟨HS, Hc⟩
  isplitl [HS]; · iexact HS
  isplitl [Hi]; · iexact Hi
  isplitl [Hrr]
  · iapply (row_forget c E0.rr q (prt fA fB 2 (sdr 0 q c) q)); iexact Hrr
  iexact Hc

theorem direct_step (c : Dev nD) (q : Fin 8) (r : List Ob) :
    iprop((args fA fB c ∗ st fA fB K c (.pl 2 q :: r)) ∗ rowE (F := F) c E0.sd q ∗ way (F := F) c 2 q)
      ⊢ WP c (direct E0 c q) fun _ => iprop((args fA fB c ∗ st fA fB K c r) ∗ crd c (.pl true 2 q)) := by
  iintro ⟨⟨HA, HS⟩, Hsd, Hw⟩
  iapply (wp_then c (wp_forLK c (args fA fB c) _ _ _ zs fun z => part_step fA fB c E0.sd (wD q) q z))
  isplitl [HA Hsd]
  · isplitl [HA] <;> iassumption
  iintro %_ ⟨HA, Hsd⟩
  iapply (wp_use c (send_way fA fB K c 2 q r tgtD (tgtD_eq q c)))
  isplitl [HS Hsd Hw]
  · isplitl [HS]; · iexact HS
    isplitl [Hsd]; · iexact Hsd
    iexact Hw
  iintro %_ ⟨HS, Hc⟩
  isplitl [HA HS]
  · isplitl [HA] <;> iassumption
  iexact Hc

theorem lv_pl (m : Fin 3) (hm : m ≠ 0) (l : List (Fin 8)) (r : List Ob) (hr : ∀ o ∈ r, 2 < lvO o) : ∀ o ∈ l.map (Ob.pl m) ++ r, 2 < lvO o := by
  intro o ho
  rcases List.mem_append.mp ho with ho | ho
  · obtain ⟨q, -, rfl⟩ := List.mem_map.mp ho
    show 2 < if m = 0 then 2 else 3
    rw [if_neg hm]
    decide
  · exact hr o ho

/-- What a stage takes for a chunk, and what it leaves. -/
def stageIn (c : Dev nD) (q : Fin 8) : sProp 𝕄 :=
  iprop((rowE c E0.sc q ∗ due1 c (.pl false 0 q) ∗ way c 1 q) ∗ (rowE c E0.sd q ∗ way c 2 q))
def stageOut (c : Dev nD) (q : Fin 8) : sProp 𝕄 :=
  iprop((idle c (.pl false 0 q) ∗ rowE c E0.rr q ∗ crd c (.pl true 1 q)) ∗ crd c (.pl true 2 q))

theorem stage_step (c : Dev nD) (j : Fin 4) (r : List Ob) (hr : ∀ o ∈ r, 2 < lvO o) :
    iprop((args fA fB c ∗ st fA fB K c (obS j ++ r)) ∗ bigSepL (pair j) (stageIn (F := F) c))
      ⊢ WP c (stage E0 c j) fun _ => iprop((args fA fB c ∗ st fA fB K c r) ∗ bigSepL (pair j) (stageOut c)) := by
  have hin : bigSepL (pair j) (stageIn (F := F) c) = iprop(((bigSepL (pair j) fun q => rowE (F := F) c E0.sc q)
      ∗ (bigSepL (pair j) fun q => iprop(due1 (F := F) c (.pl false 0 q) ∗ way (F := F) c 1 q)))
      ∗ (bigSepL (pair j) fun q => iprop(rowE (F := F) c E0.sd q ∗ way (F := F) c 2 q))) := by
    rw [← bigSepL_both, ← bigSepL_both]; rfl
  have hout : bigSepL (pair j) (stageOut (F := F) c) = iprop((bigSepL (pair j) fun q => iprop(idle (F := F) c (.pl false 0 q) ∗ rowE c E0.rr q ∗ crd c (.pl true 1 q)))
      ∗ (bigSepL (pair j) fun q => crd (F := F) c (.pl true 2 q))) := by
    rw [← bigSepL_both]; rfl
  rw [hin, hout, show obS j ++ r = (pair j).map (Ob.pl 1) ++ ((pair j).map (Ob.pl 2) ++ r) from List.append_assoc _ _ _]
  iintro ⟨⟨HA, HS⟩, ⟨Hsc, Hx⟩, Hd⟩
  iapply (wp_then c (fill_step fA fB c E0.sc wC (pair j)))
  isplitl [HA Hsc]
  · isplitl [HA] <;> iassumption
  iintro %_ ⟨HA, Hsc⟩
  iapply (wp_then c (wp_forL c (fun l => st fA fB K c (l.map (Ob.pl 1) ++ ((pair j).map (Ob.pl 2) ++ r)))
    (fun q => iprop(row c E0.sc q (prt fA fB (wC q) c q) ∗ due1 (F := F) c (.pl false 0 q) ∗ way (F := F) c 1 q)) _ _ (pair j)
    fun q l _ => combC_step fA fB K c q _ (lv_pl 1 (by decide) l _ (lv_pl 2 (by decide) (pair j) r hr))))
  rw [bigSepL_both (pair j) (fun q => row c E0.sc q (prt fA fB (wC q) c q)) (fun q => iprop(due1 (F := F) c (.pl false 0 q) ∗ way (F := F) c 1 q))]
  isplitl [HS Hsc Hx]
  · isplitl [HS]; · iexact HS
    isplitl [Hsc] <;> iassumption
  iintro %_ ⟨HS, Ho⟩
  iapply (wp_use c (wp_forL c (fun l => iprop(args fA fB c ∗ st fA fB K c (l.map (Ob.pl 2) ++ r))) _ _ _ (pair j)
    fun q l _ => direct_step fA fB K c q _))
  isplitl [HA HS Hd]
  · isplitl [HA HS]
    · isplitl [HA]; · iexact HA
      iexact HS
    iexact Hd
  iintro %_ ⟨HS, Hd⟩
  isplitl [HS]; · iexact HS
  isplitl [Ho] <;> iassumption

theorem lv_obSs (l : List (Fin 4)) (r : List Ob) (hr : ∀ o ∈ r, 2 < lvO o) : ∀ o ∈ obSs l ++ r, 2 < lvO o := by
  induction l with
  | nil => exact hr
  | cons j l ih =>
    have e : obSs (j :: l) ++ r = (pair j).map (Ob.pl 1) ++ ((pair j).map (Ob.pl 2) ++ (obSs l ++ r)) := by
      show (obS j ++ obSs l) ++ r = _
      rw [List.append_assoc]
      exact List.append_assoc _ _ _
    rw [e]
    exact lv_pl 1 (by decide) _ _ (lv_pl 2 (by decide) _ _ ih)

theorem stages_step (c : Dev nD) (r : List Ob) (hr : ∀ o ∈ r, 2 < lvO o) :
    iprop((args fA fB c ∗ st fA fB K c (obSs js ++ r)) ∗ bigSepL qs (stageIn (F := F) c))
      ⊢ WP c (forL js (stage E0 c)) fun _ => iprop((args fA fB c ∗ st fA fB K c r) ∗ bigSepL qs (stageOut c)) := by
  have hi := by_pairs (stageIn (F := F) c)
  have ho := by_pairs (stageOut (F := F) c)
  have h : ∀ (j : Fin 4) (l : List (Fin 4)), iprop((args fA fB c ∗ st fA fB K c (obSs (j :: l) ++ r)) ∗ bigSepL (pair j) (stageIn (F := F) c))
      ⊢ WP c (stage E0 c j) fun _ => iprop((args fA fB c ∗ st fA fB K c (obSs l ++ r)) ∗ bigSepL (pair j) (stageOut c)) := fun j l => by
    rw [show obSs (j :: l) ++ r = obS j ++ (obSs l ++ r) from List.append_assoc _ _ _]
    exact stage_step fA fB K c j _ (lv_obSs l r hr)
  have key := wp_forL c (fun l => iprop(args fA fB c ∗ st fA fB K c (obSs l ++ r))) (fun j => bigSepL (pair j) (stageIn (F := F) c))
    (fun j => bigSepL (pair j) (stageOut c)) (stage E0 c) js fun j l _ => h j l
  have e : obSs [] ++ r = r := rfl
  rw [e, ← hi, ← ho] at key
  exact key

/-! ## The sums, and the transfers along the planes -/

/-- What a chunk's sum takes, and what it leaves. -/
def gatherIn (c : Dev nD) (q : Fin 8) : sProp 𝕄 :=
  iprop(row c E0.ps q (prt fA fB 0 c q) ∗ due1 c (.pl false 2 q) ∗ due1 c (.pl false 1 q))
def gatherOut (c : Dev nD) (q : Fin 8) : sProp 𝕄 :=
  iprop(row c E0.ps q (pls fA fB c q) ∗ (idle c (.pl false 2 q) ∗ rowE c E0.rd q) ∗ (idle c (.pl false 1 q) ∗ rowE c E0.rc q))

theorem gather_step (c : Dev nD) (q : Fin 8) (r : List Ob) (hr : ∀ o ∈ r, 3 < lvO o) :
    iprop(st fA fB K c r ∗ gatherIn fA fB c q) ⊢ WP c (gather E0 q) fun _ => iprop(st fA fB K c r ∗ gatherOut fA fB c q) := by
  unfold gatherIn gatherOut
  iintro ⟨HS, Hps, Hd, Hc⟩
  iapply (wp_then c (got_row fA fB K c 2 q r hr))
  isplitl [HS Hd]
  · isplitl [HS] <;> iassumption
  iintro %_ ⟨HS, Hid, Hrd⟩
  iapply (wp_then c (got_row fA fB K c 1 q r hr))
  isplitl [HS Hc]
  · isplitl [HS] <;> iassumption
  iintro %_ ⟨HS, Hic, Hrc⟩
  iapply (wp_use c (wp_forL' c (fun z => iprop(slot c E0.ps q z (prt fA fB 0 c q z) ∗ slot c E0.rd q z (cnt fA fB 2 (sdr 2 q c) q z) ∗ slot c E0.rc q z (cnt fA fB 1 (sdr 1 q c) q z)))
    (fun z => iprop(slot c E0.ps q z (pls fA fB c q z) ∗ slot c E0.rd q z (cnt fA fB 2 (sdr 2 q c) q z) ∗ slot c E0.rc q z (cnt fA fB 1 (sdr 1 q c) q z)))
    (fun z => addP E0 q z) zs fun z => addP_step c q z _ _ _))
  rw [bigSepL_both, bigSepL_both, bigSepL_both, bigSepL_both]
  isplitl [Hps Hrd Hrc]
  · isplitl [Hps]; · iexact Hps
    isplitl [Hrd]; · iexact Hrd
    iexact Hrc
  iintro %_ ⟨Hps, Hrd, Hrc⟩
  isplitl [HS]; · iexact HS
  isplitl [Hps]; · iexact Hps
  isplitl [Hid Hrd]
  · isplitl [Hid]; · iexact Hid
    iapply (row_forget c E0.rd q (cnt fA fB 2 (sdr 2 q c) q)); iexact Hrd
  isplitl [Hic]; · iexact Hic
  iapply (row_forget c E0.rc q (cnt fA fB 1 (sdr 1 q c) q)); iexact Hrc

/-- What a pair's transfer to a plane takes beside its contents. -/
def wayZ (c : Dev nD) (j : Fin 4) (e : Fin 3) : sProp 𝕄 :=
  iprop(tok c (.zz j e) ∗ tokS c (.zs j e) ∗ duoE (zt e c) E0.zv j (pz c))

theorem sendZ_way (c : Dev nD) (j : Fin 4) (e : Fin 3) (r : List Ob) :
    iprop(st fA fB K c (.zz j e :: r) ∗ duo c E0.ps j (zp e c) (fun q => pls fA fB c q (zp e c)) ∗ wayZ (F := F) c j e)
      ⊢ WP c (sendZ E0 c j e) fun _ => iprop(st fA fB K c r ∗ crd c (.zs j e)) := by
  refine st_use (.trans ?_ (sendZ_step fA fB K c j e r))
  unfold wayZ
  iintro ⟨#HK, HO, Hs, Ht, HtS, Hd⟩
  isplitr; · iexact HK
  isplitl [HO]; · iexact HO
  isplitl [Ht]; · iexact Ht
  isplitl [HtS]; · iexact HtS
  isplitl [Hs] <;> iassumption

/-- What the transfers of a pair leave. -/
def acrossOut (c : Dev nD) (j : Fin 4) : sProp 𝕄 :=
  iprop((bigSepL (pair j) fun q => slot c E0.ps q (pz c) (pls fA fB c q (pz c)))
    ∗ (bigSepL (pair j) fun q => iprop((idle c (.pl false 2 q) ∗ rowE c E0.rd q) ∗ (idle c (.pl false 1 q) ∗ rowE c E0.rc q)))
    ∗ bigSepL ds fun e => crd c (.zs j e))

theorem lv_zz (j : Fin 4) (l : List (Fin 3)) (r : List Ob) (hr : ∀ o ∈ r, 3 < lvO o) : ∀ o ∈ l.map (Ob.zz j) ++ r, 3 < lvO o := by
  intro o ho
  rcases List.mem_append.mp ho with ho | ho
  · obtain ⟨q, -, rfl⟩ := List.mem_map.mp ho
    exact (by decide : (3 : ℕ) < 4)
  · exact hr o ho

theorem across_step (c : Dev nD) (j : Fin 4) (r : List Ob) (hr : ∀ o ∈ r, 3 < lvO o) :
    iprop(st fA fB K c (obZ j ++ r) ∗ (bigSepL (pair j) (gatherIn fA fB c)) ∗ bigSepL ds fun e => wayZ (F := F) c j e)
      ⊢ WP c (across E0 c j) fun _ => iprop(st fA fB K c r ∗ acrossOut fA fB c j) := by
  have hg : bigSepL (pair j) (gatherOut fA fB c) = iprop(((bigSepL (pair j) fun q => slot c E0.ps q (pz c) (pls fA fB c q (pz c)))
      ∗ (bigSepL ds fun e => duo c E0.ps j (zp e c) (fun q => pls fA fB c q (zp e c))))
      ∗ (bigSepL (pair j) fun q => iprop((idle (F := F) c (.pl false 2 q) ∗ rowE c E0.rd q) ∗ (idle c (.pl false 1 q) ∗ rowE c E0.rc q)))) := by
    have hr : ∀ q, row c E0.ps q (pls fA fB c q) = iprop(slot c E0.ps q (pz c) (pls fA fB c q (pz c)) ∗ bigSepL ds fun e => slot c E0.ps q (zp e c) (pls fA fB c q (zp e c))) :=
      fun q => by_planes c _
    unfold gatherOut duo
    rw [bigSepL_both, bigSepL_swap ds (pair j), ← bigSepL_both]
    simp only [hr, bigSepL_both]
  iintro ⟨HS, Hg, Hw⟩
  iapply (wp_then c (wp_forLK c (st fA fB K c (obZ j ++ r)) _ _ _ (pair j) fun q => gather_step fA fB K c q _ (lv_zz j ds r hr)))
  isplitl [HS Hg]
  · isplitl [HS] <;> iassumption
  rw [hg]
  iintro %_ ⟨HS, ⟨Hown, Hps⟩, Ho⟩
  iapply (wp_use c (wp_forL c (fun l => st fA fB K c (l.map (Ob.zz j) ++ r))
    (fun e => iprop(duo c E0.ps j (zp e c) (fun q => pls fA fB c q (zp e c)) ∗ wayZ (F := F) c j e)) _ _ ds fun e l _ => sendZ_way fA fB K c j e _))
  rw [bigSepL_both ds (fun e => duo c E0.ps j (zp e c) (fun q => pls fA fB c q (zp e c))) (fun e => wayZ (F := F) c j e)]
  isplitl [HS Hps Hw]
  · isplitl [HS]; · iexact HS
    isplitl [Hps] <;> iassumption
  iintro %_ ⟨HS, Hc⟩
  isplitl [HS]; · iexact HS
  unfold acrossOut
  isplitl [Hown]; · iexact Hown
  isplitl [Ho]; · iexact Ho
  iexact Hc

theorem lv_obZs (l : List (Fin 4)) : ∀ o ∈ obZs l, 3 < lvO o := by
  induction l with
  | nil => exact fun o ho => absurd ho List.not_mem_nil
  | cons j l ih => exact lv_zz j ds _ ih

theorem acrosses_step (c : Dev nD) :
    iprop(st fA fB K c (obZs js) ∗ (bigSepL qs (gatherIn fA fB c)) ∗ bigSepL js fun j => bigSepL ds fun e => wayZ (F := F) c j e)
      ⊢ WP c (forL js (across E0 c)) fun _ => iprop(st fA fB K c [] ∗ bigSepL js (acrossOut fA fB c)) := by
  have hi := by_pairs (gatherIn fA fB c)
  refine (sep_mono_right ((sep_mono_left (Entails.of_eq hi)).trans (Entails.of_eq (bigSepL_both js _ _).symm))).trans ?_
  have h : ∀ (j : Fin 4) (l : List (Fin 4)), iprop(st fA fB K c (obZs (j :: l)) ∗ (bigSepL (pair j) (gatherIn fA fB c)) ∗ bigSepL ds fun e => wayZ (F := F) c j e)
      ⊢ WP c (across E0 c j) fun _ => iprop(st fA fB K c (obZs l) ∗ acrossOut fA fB c j) := fun j l => across_step fA fB K c j _ (lv_obZs l)
  have key := wp_forL c (fun l => st fA fB K c (obZs l)) (fun j => iprop((bigSepL (pair j) (gatherIn fA fB c)) ∗ bigSepL ds fun e => wayZ (F := F) c j e))
    (acrossOut fA fB c) (across E0 c) js fun j l _ => h j l
  have e : obZs [] = [] := rfl
  rw [e] at key
  exact key

/-! ## The result -/

theorem none_owed {P : Ob → Prop} : ∀ o ∈ ([] : List Ob), P o := fun o ho => absurd ho List.not_mem_nil

/-- What finishing a pair takes, and what it leaves. -/
def finishIn (c : Dev nD) (j : Fin 4) : sProp 𝕄 :=
  iprop((bigSepL ds fun e => due1 c (.zr j (zp e c))) ∗ (bigSepL (pair j) fun q => slot c E0.ps q (pz c) (pls fA fB c q (pz c)))
    ∗ bigSepL (pair j) fun q => winE c E0.o (oR q))
def finishOut (c : Dev nD) (j : Fin 4) : sProp 𝕄 :=
  iprop((bigSepL ds fun e => idle c (.zr j (zp e c))) ∗ bigSepL (pair j) fun q => iprop(sums fA fB c q ∗ win c E0.o (oR q) (res fA fB c q)))

theorem finish_step (c : Dev nD) (j : Fin 4) :
    iprop(st fA fB K c [] ∗ finishIn fA fB c j) ⊢ WP c (finish E0 c j) fun _ => iprop(st fA fB K c [] ∗ finishOut fA fB c j) := by
  have hs : bigSepL (pair j) (fun q => iprop(sums fA fB c q ∗ winE (F := F) c E0.o (oR q)))
      = iprop(((bigSepL (pair j) fun q => slot c E0.ps q (pz c) (pls fA fB c q (pz c))) ∗ (bigSepL (pair j) fun q => slot c E0.zv q (zp 0 c) (zsv fA fB c (zp 0 c) q))
        ∗ (bigSepL (pair j) fun q => slot c E0.zv q (zp 1 c) (zsv fA fB c (zp 1 c) q)) ∗ (bigSepL (pair j) fun q => slot c E0.zv q (zp 2 c) (zsv fA fB c (zp 2 c) q)))
        ∗ bigSepL (pair j) fun q => winE (F := F) c E0.o (oR q)) := by
    simp only [sums, bigSepL_both]
  unfold finishIn finishOut
  iintro ⟨HS, Hd, Hps, Ho⟩
  iapply (wp_then c (wp_forLK c (st fA fB K c []) (fun e => due1 c (.zr j (zp e c))) (fun e => iprop(idle c (.zr j (zp e c)) ∗ duo c E0.zv j (zp e c) (zsv fA fB c (zp e c))))
    (fun e => waitZ E0 c j e) ds fun e => st_use (waitZ_step fA fB K c j e [] none_owed)))
  rw [bigSepL_both]
  isplitl [HS Hd]
  · isplitl [HS] <;> iassumption
  iintro %_ ⟨HS, Hi, Hz⟩
  iapply (wp_use c (wp_forL' c (fun q => iprop(sums fA fB c q ∗ winE c E0.o (oR q))) _ _ (pair j) fun q => outQ_step fA fB c q))
  rw [hs]
  simp only [bigSepL_cons' (0 : Fin 3), bigSepL_cons' (1 : Fin 3), bigSepL_cons' (2 : Fin 3), bigSepL_nil]
  icases Hz with ⟨Hz0, Hz1, Hz2, -⟩
  isplitl [Hps Hz0 Hz1 Hz2 Ho]
  · isplitl [Hps Hz0 Hz1 Hz2]
    · isplitl [Hps]; · iexact Hps
      isplitl [Hz0]; · iexact Hz0
      isplitl [Hz1] <;> iassumption
    iexact Ho
  iintro %_ Ho
  isplitl [HS]; · iexact HS
  isplitl [Hi] <;> iassumption

/-! ## The copies that have left -/

def drainOut (c : Dev nD) (q : Fin 8) : sProp 𝕄 :=
  iprop((idle c (.pl true 0 q) ∗ rowE c (srcM 0) q) ∗ (idle c (.pl true 1 q) ∗ rowE c (srcM 1) q) ∗ (idle c (.pl true 2 q) ∗ rowE c (srcM 2) q))

theorem drain_step (c : Dev nD) (q : Fin 8) :
    iprop(st fA fB K c [] ∗ due1 (F := F) c (.pl true 0 q) ∗ due1 (F := F) c (.pl true 1 q) ∗ due1 (F := F) c (.pl true 2 q))
      ⊢ WP c (drain E0 q) fun _ => iprop(st fA fB K c [] ∗ drainOut c q) := by
  unfold drainOut
  iintro ⟨HS, H0, H1, H2⟩
  iapply (wp_then c (sent_row fA fB K c 0 q))
  isplitl [HS H0]
  · isplitl [HS] <;> iassumption
  iintro %_ ⟨HS, H0⟩
  iapply (wp_then c (sent_row fA fB K c 2 q))
  isplitl [HS H2]
  · isplitl [HS] <;> iassumption
  iintro %_ ⟨HS, H2⟩
  iapply (wp_use c (sent_row fA fB K c 1 q))
  isplitl [HS H1]
  · isplitl [HS] <;> iassumption
  iintro %_ ⟨HS, H1⟩
  isplitl [HS]; · iexact HS
  isplitl [H0]; · iexact H0
  isplitl [H1] <;> iassumption

theorem drainZ_step (c : Dev nD) (j : Fin 4) :
    iprop(st fA fB K c [] ∗ bigSepL ds fun e => due1 (F := F) c (.zs j e))
      ⊢ WP c (drainZ E0 c j) fun _ => iprop(st fA fB K c [] ∗ bigSepL ds fun e => iprop(idle c (.zs j e) ∗ duoE c E0.ps j (zp e c))) :=
  wp_forLK c (st fA fB K c []) _ _ _ ds fun e => st_use (doneZ_step fA fB K c j e [] none_owed)

end Cert.KernelIdeal.Rs
-- ==== Proof.Front.lean ====
/- A core's whole program: what it takes and what it leaves. -/
module

public import proofs.«01_k».proof.Proof.Phases

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## Grouping -/

theorem by_ms (Φ : Fin 3 → sProp 𝕄) : bigSepL ms Φ = iprop(Φ 0 ∗ Φ 1 ∗ Φ 2) := by
  simp only [bigSepL_cons', bigSepL_nil]
  exact congrArg (fun P => (iprop(Φ 0 ∗ Φ 1 ∗ P) : sProp 𝕄)) (Entails.antisymm BI.sep_emp.1 BI.sep_emp.2)

theorem way_row (c : Dev nD) (m : Fin 3) : (bigSepL qs fun q => way (F := F) c m q)
    = iprop((bigSepL qs fun q => tok (F := F) c (.pl m q)) ∗ (bigSepL qs fun q => tokS (F := F) c (.pl true m q))
      ∗ bigSepL qs fun q => rowE (F := F) (tgt m q c) (dstM m) q) := by
  unfold way
  rw [bigSepL_both, bigSepL_both]

theorem wayZ_all (c : Dev nD) : (bigSepL js fun j => bigSepL ds fun e => wayZ (F := F) c j e)
    = iprop((bigSepL js fun j => bigSepL ds fun e => tok (F := F) c (.zz j e)) ∗ (bigSepL js fun j => bigSepL ds fun e => tokS (F := F) c (.zs j e))
      ∗ bigSepL js fun j => bigSepL ds fun e => duoE (F := F) (zt e c) E0.zv j (pz c)) := by
  unfold wayZ
  simp only [bigSepL_both]

theorem due1_row (c : Dev nD) (s : Bool) (m : Fin 3) : (bigSepL qs fun q => due1 (F := F) c (.pl s m q))
    = iprop((bigSepL qs fun q => crd (F := F) c (.pl s m q)) ∗ bigSepL qs fun q => place (F := F) c (.pl s m q)) := by
  unfold due1
  rw [bigSepL_both]

theorem stageIn_row (c : Dev nD) : bigSepL qs (stageIn (F := F) c)
    = iprop(((bigSepL qs fun q => rowE (F := F) c E0.sc q) ∗ (bigSepL qs fun q => due1 (F := F) c (.pl false 0 q)) ∗ bigSepL qs fun q => way (F := F) c 1 q)
      ∗ (bigSepL qs fun q => rowE (F := F) c E0.sd q) ∗ bigSepL qs fun q => way (F := F) c 2 q) := by
  rw [← bigSepL_both, ← bigSepL_both, ← bigSepL_both, ← bigSepL_both]
  rfl

theorem stageOut_row (c : Dev nD) : bigSepL qs (stageOut (F := F) c)
    = iprop(((bigSepL qs fun q => idle (F := F) c (.pl false 0 q)) ∗ (bigSepL qs fun q => rowE (F := F) c E0.rr q) ∗ bigSepL qs fun q => crd (F := F) c (.pl true 1 q))
      ∗ bigSepL qs fun q => crd (F := F) c (.pl true 2 q)) := by
  rw [← bigSepL_both, ← bigSepL_both, ← bigSepL_both]
  rfl

theorem drainOut_row (c : Dev nD) : bigSepL qs (drainOut (F := F) c)
    = iprop(((bigSepL qs fun q => idle (F := F) c (.pl true 0 q)) ∗ bigSepL qs fun q => rowE (F := F) c (srcM 0) q)
      ∗ ((bigSepL qs fun q => idle (F := F) c (.pl true 1 q)) ∗ bigSepL qs fun q => rowE (F := F) c (srcM 1) q)
      ∗ ((bigSepL qs fun q => idle (F := F) c (.pl true 2 q)) ∗ bigSepL qs fun q => rowE (F := F) c (srcM 2) q)) := by
  rw [← bigSepL_both, ← bigSepL_both, ← bigSepL_both, ← bigSepL_both, ← bigSepL_both]
  rfl

/-- A buffer's rows: its slots of the own plane, and the pairs of the others. -/
theorem rows_split (c : Dev nD) (M : Buf4) : (bigSepL qs fun q => rowE (F := F) c M q)
    = iprop((bigSepL qs fun q => slotE (F := F) c M q (pz c)) ∗ bigSepL js fun j => bigSepL ds fun e => duoE (F := F) c M j (zp e c)) := by
  have h : ∀ q, rowE (F := F) c M q = iprop(slotE (F := F) c M q (pz c) ∗ bigSepL ds fun e => slotE (F := F) c M q (zp e c)) := fun q => by_planes c _
  have h' : ∀ j, (bigSepL ds fun e => duoE (F := F) c M j (zp e c)) = bigSepL (pair j) fun q => bigSepL ds fun e => slotE (F := F) c M q (zp e c) :=
    fun j => bigSepL_swap ds (pair j) _
  simp only [h, h', bigSepL_both]
  rw [← by_pairs]
theorem lend_pairs (c : Dev nD) : (bigSepL js fun j => bigSepL ds fun e => duoE (F := F) c E0.zv j (zp e c)) = bigSepL ds fun e => lendZ (F := F) c (zp e c) := by
  rw [← bigSepL_swap]
  unfold lendZ
  exact congrArg (bigSepL ds) (funext fun e => (by_pairs _).symm)

theorem wp_pre {α : Type} (c : Dev nD) {p : Prog (TpuEff nD τ sig (Elt F) Λ₀ .tc) α} {P P' : sProp 𝕄} {Q : α → sProp 𝕄}
    (h : P ⊢ (iprop(|={Set.univ}=> P') : sProp 𝕄)) (h' : P' ⊢ WP c p Q) : P ⊢ WP c p Q := by
  unfold WP at *
  iintro HP
  imod h $$ HP with HP
  iapply h'
  iexact HP

variable (fA : CA F) (fB : CB F) (K : Dev nD × Cl → ℕ)

theorem retires (c : Dev nD) (l : List (Fin 4)) : iprop(know fA fB K ∗ bigSepL l fun j => place (F := F) c (.zr j (pz c)))
    ⊢ (iprop(|={Set.univ}=> bigSepL l fun j => idle c (.zr j (pz c))) : sProp 𝕄) := by
  induction l with
  | nil =>
    simp only [bigSepL_nil]
    iintro ⟨-, -⟩
    imodintro
    iempintro
  | cons j l ih =>
    rw [bigSepL_cons', bigSepL_cons']
    iintro ⟨#HK, Hj, Hl⟩
    imod (retire fA fB K c j) $$ [Hj] with Hj
    · isplitr; · iexact HK
      iexact Hj
    imod ih $$ [Hl] with Hl
    · isplitr; · iexact HK
      iexact Hl
    imodintro
    isplitl [Hj] <;> iassumption

/-! ## The whole program -/

/-- The scratch buffers, in whatever state; -/
def bufs (c : Dev nD) : sProp 𝕄 :=
  iprop((bigSepL ms fun m => bigSepL qs fun q => rowE c (srcM m) q) ∗ (bigSepL ms fun m => bigSepL qs fun q => rowE c (dstM m) q)
    ∗ (bigSepL qs fun q => rowE c E0.ps q) ∗ bigSepL qs fun q => rowE c E0.zv q)
/-- what the other cores will credit; -/
def owed (c : Dev nD) : sProp 𝕄 :=
  iprop(cred (tallyAt (kcell (c, .bar)) () 5) ∗ (bigSepL ms fun m => bigSepL qs fun q => crd c (.pl false m q))
    ∗ bigSepL js fun j => bigSepL ds fun e => crd c (.zr j (zp e c)))
/-- the rights to pay what is owed to the other cores, -/
def rights (c : Dev nD) : sProp 𝕄 := bigSep Finset.univ (tok c)
/-- and to be told that the copies have left. -/
def rightsS (c : Dev nD) : sProp 𝕄 :=
  iprop((bigSepL ms fun m => bigSepL qs fun q => tokS c (.pl true m q)) ∗ bigSepL js fun j => bigSepL ds fun e => tokS c (.zs j e))

def coreIn (c : Dev nD) : sProp 𝕄 :=
  iprop(owe c oblig ∗ (args fA fB c ∗ bigSepL qs fun q => winE c E0.o (oR q)) ∗ bufs c ∗ owed c ∗ rights c ∗ rightsS c ∗ bigSep Finset.univ (place c))
def coreOut (c : Dev nD) : sProp 𝕄 :=
  iprop(owe c [] ∗ (args fA fB c ∗ bigSepL qs fun q => win c E0.o (oR q) (res fA fB c q)) ∗ bufs c ∗ bigSep Finset.univ (idle c))

theorem front (c : Dev nD) (k : PUnit → Pr F) (R : PUnit → sProp 𝕄) :
    iprop((know fA fB K ∗ owe c oblig ∗ args fA fB c)
      ∗ ((bigSepL [0, 1, 2, 3, 4] fun i => tok (F := F) c (.gr i)) ∗ ((bigSepL ms fun m => bigSepL qs fun q => rowE (F := F) c (dstM m) q) ∗ bigSepL ds fun e => lendZ (F := F) c (zp e c)))
      ∗ (bigSepL ms fun m => bigSepL qs fun q => rowE (F := F) c (srcM m) q)
      ∗ (cred (tallyAt (kcell (c, .bar)) () 5) ∗ place c .bar)
      ∗ (bigSepL ms fun m => bigSepL qs fun q => tok (F := F) c (.pl m q)) ∗ (bigSepL ms fun m => bigSepL qs fun q => tokS (F := F) c (.pl true m q))
      ∗ (bigSepL qs fun q => due1 (F := F) c (.pl false 0 q))
      ∗ (∀ a, ((args fA fB c ∗ st fA fB K c (obZs js)) ∗ bigSepL qs (stageOut c) ∗ idle c .bar ∗ (bigSepL qs fun q => crd c (.pl true 0 q))
          ∗ bigSepL js fun j => bigSepL ds fun e => duoE (zt e c) E0.zv j (pz c)) -∗ WP c (k a) R))
      ⊢ WP c ((sigs c).bind fun _ => (fillR E0 c).bind fun _ => (semWaitWord barS 5#32).bind fun _ => (sendR E0 c).bind fun _ => (forL js (stage E0 c)).bind k) R := by
  have e0 : st fA fB K c oblig = st fA fB K c (obB ++ (obR ++ (obSs js ++ obZs js))) := rfl
  rw [by_ms (fun m => bigSepL qs fun q => rowE (F := F) c (srcM m) q), by_ms (fun m => bigSepL qs fun q => tok (F := F) c (.pl m q)),
    by_ms (fun m => bigSepL qs fun q => tokS (F := F) c (.pl true m q))]
  iintro ⟨⟨#HK, HO, HA⟩, ⟨Hgr, Hlend⟩, ⟨Hsr, Hsc, Hsd⟩, Hbar, ⟨Ht0, Ht1, Ht2⟩, ⟨Hs0, Hs1, Hs2⟩, Hd0, Hk⟩
  iapply (wp_then c (sigs_step fA fB K c (obR ++ (obSs js ++ obZs js))))
  rw [bigSepL_both [0, 1, 2, 3, 4] (fun i => tok (F := F) c (.gr i)) (fun i => pay fA fB (bt i c) .bar i)]
  isplitl [HO Hgr Hlend]
  · isplitl [HO]
    · unfold st
      isplitr; · iexact HK
      iexact HO
    isplitl [Hgr]; · iexact Hgr
    iapply (greets fA fB c); iexact Hlend
  iintro %_ HS
  iapply (wp_then c (fill_step fA fB c E0.sr (fun _ => 2) qs))
  isplitl [HA Hsr]
  · isplitl [HA] <;> iassumption
  iintro %_ ⟨HA, Hsr⟩
  iapply (wp_then c (st_use (waitB_step fA fB K c (obR ++ (obSs js ++ obZs js)) (by decide +kernel))))
  isplitl [HS Hbar]
  · isplitl [HS] <;> iassumption
  iintro %_ ⟨HS, Hib, Hpay⟩
  ihave Hg := (greeted fA fB c) $$ Hpay
  rw [by_ms (fun m => bigSepL qs fun q => rowE (F := F) (tgt m q c) (dstM m) q)]
  icases Hg with ⟨⟨Hr0, Hr1, Hr2⟩, Hz⟩
  iapply (wp_then c (sendR_step fA fB K c (obSs js ++ obZs js)))
  rw [bigSepL_both qs (fun q => row c E0.sr q (prt fA fB 2 c q)) (fun q => way (F := F) c 0 q), way_row]
  isplitl [HS Hsr Ht0 Hs0 Hr0]
  · isplitl [HS]; · iexact HS
    isplitl [Hsr]; · iexact Hsr
    isplitl [Ht0]; · iexact Ht0
    isplitl [Hs0] <;> iassumption
  iintro %_ ⟨HS, Hc0⟩
  iapply (wp_then c (stages_step fA fB K c (obZs js) fun o ho => lt_trans (by decide) (lv_obZs js o ho)))
  rw [stageIn_row, way_row, way_row]
  isplitl [HA HS Hsc Hsd Hd0 Ht1 Hs1 Hr1 Ht2 Hs2 Hr2]
  · isplitl [HA HS]
    · isplitl [HA] <;> iassumption
    isplitl [Hsc Hd0 Ht1 Hs1 Hr1]
    · isplitl [Hsc]; · iexact Hsc
      isplitl [Hd0]; · iexact Hd0
      isplitl [Ht1]; · iexact Ht1
      isplitl [Hs1] <;> iassumption
    isplitl [Hsd]; · iexact Hsd
    isplitl [Ht2]; · iexact Ht2
    isplitl [Hs2] <;> iassumption
  iintro %a ⟨HS, Ho⟩
  iapply Hk
  isplitl [HS]; · iexact HS
  isplitl [Ho]; · iexact Ho
  isplitl [Hib]; · iexact Hib
  isplitl [Hc0] <;> iassumption

end Cert.KernelIdeal.Rs
-- ==== Proof.Core.lean ====
/- A core's whole program. -/
module

public import proofs.«01_k».proof.Proof.Front

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

variable (fA : CA F) (fB : CB F) (K : Dev nD × Cl → ℕ)

theorem gatherIn_row (c : Dev nD) : bigSepL qs (gatherIn fA fB c)
    = iprop((bigSepL qs fun q => row c E0.ps q (prt fA fB 0 c q)) ∗ (bigSepL qs fun q => due1 (F := F) c (.pl false 2 q)) ∗ bigSepL qs fun q => due1 (F := F) c (.pl false 1 q)) := by
  rw [← bigSepL_both, ← bigSepL_both]
  rfl

theorem acrossOut_all (c : Dev nD) : bigSepL js (acrossOut fA fB c)
    = iprop((bigSepL js fun j => bigSepL (pair j) fun q => slot c E0.ps q (pz c) (pls fA fB c q (pz c)))
      ∗ (((bigSepL qs fun q => idle (F := F) c (.pl false 2 q)) ∗ bigSepL qs fun q => rowE (F := F) c E0.rd q)
        ∗ ((bigSepL qs fun q => idle (F := F) c (.pl false 1 q)) ∗ bigSepL qs fun q => rowE (F := F) c E0.rc q))
      ∗ bigSepL js fun j => bigSepL ds fun e => crd (F := F) c (.zs j e)) := by
  rw [← bigSepL_both, ← bigSepL_both, ← bigSepL_both qs (fun q => iprop(idle (F := F) c (.pl false 2 q) ∗ rowE (F := F) c E0.rd q)), by_pairs, ← bigSepL_both, ← bigSepL_both]
  rfl

theorem finishIn_all (c : Dev nD) : bigSepL js (finishIn fA fB c)
    = iprop((bigSepL js fun j => bigSepL ds fun e => due1 (F := F) c (.zr j (zp e c)))
      ∗ (bigSepL js fun j => bigSepL (pair j) fun q => slot c E0.ps q (pz c) (pls fA fB c q (pz c)))
      ∗ bigSepL js fun j => bigSepL (pair j) fun q => winE (F := F) c E0.o (oR q)) := by
  rw [← bigSepL_both, ← bigSepL_both]
  rfl

theorem finishOut_all (c : Dev nD) : bigSepL js (finishOut fA fB c)
    = iprop((bigSepL js fun j => bigSepL ds fun e => idle (F := F) c (.zr j (zp e c)))
      ∗ (bigSepL qs (sums fA fB c)) ∗ bigSepL qs fun q => win c E0.o (oR q) (res fA fB c q)) := by
  rw [← bigSepL_both qs, by_pairs, ← bigSepL_both]
  rfl

theorem dueZ_all (c : Dev nD) (k : Fin 4 → Fin 3 → Cl) : (bigSepL js fun j => bigSepL ds fun e => due1 (F := F) c (k j e))
    = iprop((bigSepL js fun j => bigSepL ds fun e => crd (F := F) c (k j e)) ∗ bigSepL js fun j => bigSepL ds fun e => place (F := F) c (k j e)) := by
  unfold due1
  simp only [bigSepL_both]

theorem bigSepL_le {I : Type} (l : List I) (Φ Ψ : I → sProp 𝕄) (h : ∀ i, Φ i ⊢ Ψ i) : bigSepL l Φ ⊢ bigSepL l Ψ := by
  induction l with
  | nil => exact .rfl
  | cons i l ih =>
    rw [bigSepL_cons', bigSepL_cons']
    exact BI.sep_mono (h i) ih

/-- What the sums were taken from: the own plane's slots, and the landing slots of the others. -/
theorem sums_forget (c : Dev nD) : bigSepL qs (sums fA fB c)
    ⊢ iprop((bigSepL qs fun q => slotE (F := F) c E0.ps q (pz c)) ∗ bigSepL js fun j => bigSepL ds fun e => duoE (F := F) c E0.zv j (zp e c)) := by
  rw [lend_pairs]
  unfold lendZ
  rw [bigSepL_swap, ← bigSepL_both]
  refine bigSepL_le qs _ _ fun q => ?_
  simp only [bigSepL_cons', bigSepL_nil]
  unfold sums
  iintro ⟨H, H0, H1, H2⟩
  isplitl [H]; · iapply (win_forget c E0.ps (slotR q (pz c)) (pls fA fB c q (pz c))); iexact H
  isplitl [H0]; · iapply (win_forget c E0.zv (slotR q (zp 0 c)) (zsv fA fB c (zp 0 c) q)); iexact H0
  isplitl [H1]; · iapply (win_forget c E0.zv (slotR q (zp 1 c)) (zsv fA fB c (zp 1 c) q)); iexact H1
  isplitl [H2]; · iapply (win_forget c E0.zv (slotR q (zp 2 c)) (zsv fA fB c (zp 2 c) q)); iexact H2
  iempintro

theorem back (c : Dev nD) :
    iprop((args fA fB c ∗ st fA fB K c (obZs js))
      ∗ ((bigSepL qs fun q => rowE (F := F) c E0.ps q) ∗ bigSepL qs fun q => winE (F := F) c E0.o (oR q))
      ∗ ((bigSepL qs fun q => due1 (F := F) c (.pl false 2 q)) ∗ bigSepL qs fun q => due1 (F := F) c (.pl false 1 q))
      ∗ (bigSepL js fun j => bigSepL ds fun e => wayZ (F := F) c j e)
      ∗ (bigSepL js fun j => bigSepL ds fun e => due1 (F := F) c (.zr j (zp e c)))
      ∗ ((bigSepL qs fun q => due1 (F := F) c (.pl true 0 q)) ∗ (bigSepL qs fun q => due1 (F := F) c (.pl true 1 q)) ∗ bigSepL qs fun q => due1 (F := F) c (.pl true 2 q))
      ∗ (bigSepL js fun j => bigSepL ds fun e => place (F := F) c (.zs j e)))
      ⊢ WP c ((fillP E0 c).bind fun _ => (forL js (across E0 c)).bind fun _ => (forL js (finish E0 c)).bind fun _ => (forL qs (drain E0)).bind fun _ => forL js (drainZ E0 c)) fun _ =>
        iprop((args fA fB c ∗ owe c [] ∗ bigSepL qs fun q => win c E0.o (oR q) (res fA fB c q))
          ∗ (((bigSepL qs fun q => rowE c E0.ps q) ∗ bigSepL js fun j => bigSepL ds fun e => duoE (F := F) c E0.zv j (zp e c))
            ∗ ((bigSepL qs fun q => rowE c E0.rd q) ∗ bigSepL qs fun q => rowE c E0.rc q)
            ∗ ((bigSepL qs fun q => rowE c (srcM 0) q) ∗ (bigSepL qs fun q => rowE c (srcM 1) q) ∗ bigSepL qs fun q => rowE c (srcM 2) q))
          ∗ (((bigSepL qs fun q => idle c (.pl true 0 q)) ∗ (bigSepL qs fun q => idle c (.pl true 1 q)) ∗ bigSepL qs fun q => idle c (.pl true 2 q))
            ∗ ((bigSepL qs fun q => idle c (.pl false 1 q)) ∗ bigSepL qs fun q => idle c (.pl false 2 q))
            ∗ (bigSepL js fun j => bigSepL ds fun e => idle c (.zs j e)) ∗ bigSepL js fun j => bigSepL ds fun e => idle c (.zr j (zp e c)))) := by
  iintro ⟨⟨HA, HS⟩, ⟨Hps, Ho⟩, ⟨Hd2, Hd1⟩, Hw, Hdz, ⟨Hx0, Hx1, Hx2⟩, Hzs⟩
  iapply (wp_then c (fill_step fA fB c E0.ps (fun _ => 0) qs))
  isplitl [HA Hps]
  · isplitl [HA] <;> iassumption
  iintro %_ ⟨HA, Hps⟩
  iapply (wp_then c (acrosses_step fA fB K c))
  rw [gatherIn_row]
  isplitl [HS Hps Hd2 Hd1 Hw]
  · isplitl [HS]; · iexact HS
    isplitr [Hw]
    · isplitl [Hps]; · iexact Hps
      isplitl [Hd2] <;> iassumption
    iexact Hw
  rw [acrossOut_all]
  iintro %_ ⟨HS, Hown, ⟨⟨Hi2, Hrd⟩, ⟨Hi1, Hrc⟩⟩, Hcz⟩
  iapply (wp_then c (wp_forLK c (st fA fB K c []) (finishIn fA fB c) (finishOut fA fB c) (finish E0 c) js fun j => finish_step fA fB K c j))
  rw [finishIn_all, ← by_pairs fun q => winE (F := F) c E0.o (oR q)]
  isplitl [HS Hdz Hown Ho]
  · isplitl [HS]; · iexact HS
    isplitl [Hdz]; · iexact Hdz
    isplitl [Hown] <;> iassumption
  rw [finishOut_all]
  iintro %_ ⟨HS, Hiz, Hsum, Ho⟩
  ihave Hz := (sums_forget fA fB c) $$ Hsum
  icases Hz with ⟨Hown, Hzv⟩
  iapply (wp_then c (wp_forLK c (st fA fB K c []) _ (drainOut c) (drain E0) qs fun q => drain_step fA fB K c q))
  rw [bigSepL_both qs (fun q => due1 (F := F) c (.pl true 0 q)), bigSepL_both qs (fun q => due1 (F := F) c (.pl true 1 q)), drainOut_row]
  isplitl [HS Hx0 Hx1 Hx2]
  · isplitl [HS]; · iexact HS
    isplitl [Hx0]; · iexact Hx0
    isplitl [Hx1] <;> iassumption
  iintro %_ ⟨HS, ⟨Hj0, Hb0⟩, ⟨Hj1, Hb1⟩, ⟨Hj2, Hb2⟩⟩
  iapply (wp_use c (wp_forLK c (st fA fB K c []) (fun j => bigSepL ds fun e => due1 (F := F) c (.zs j e))
    (fun j => bigSepL ds fun e => iprop(idle c (.zs j e) ∗ duoE c E0.ps j (zp e c))) (drainZ E0 c) js fun j => drainZ_step fA fB K c j))
  rw [dueZ_all c (fun j e => .zs j e)]
  isplitl [HS Hcz Hzs]
  · isplitl [HS]; · iexact HS
    isplitl [Hcz] <;> iassumption
  have hz : (bigSepL js fun j => bigSepL ds fun e => iprop(idle (F := F) c (.zs j e) ∗ duoE (F := F) c E0.ps j (zp e c)))
      = iprop((bigSepL js fun j => bigSepL ds fun e => idle (F := F) c (.zs j e)) ∗ bigSepL js fun j => bigSepL ds fun e => duoE (F := F) c E0.ps j (zp e c)) := by
    simp only [bigSepL_both]
  rw [hz]
  unfold st
  iintro %_ ⟨⟨-, HO⟩, His, Hpz⟩
  isplitl [HA HO Ho]
  · isplitl [HA]; · iexact HA
    isplitl [HO] <;> iassumption
  isplitr [Hj0 Hj1 Hj2 Hi1 Hi2 His Hiz]
  · isplitl [Hown Hpz Hzv]
    · isplitl [Hown Hpz]
      · rw [rows_split c E0.ps]
        isplitl [Hown] <;> iassumption
      iexact Hzv
    isplitl [Hrd Hrc]
    · isplitl [Hrd] <;> iassumption
    isplitl [Hb0]; · iexact Hb0
    isplitl [Hb1] <;> iassumption
  isplitl [Hj0 Hj1 Hj2]
  · isplitl [Hj0]; · iexact Hj0
    isplitl [Hj1] <;> iassumption
  isplitl [Hi1 Hi2]
  · isplitl [Hi1] <;> iassumption
  isplitl [His] <;> iassumption

theorem core_ok (c : Dev nD) : iprop(know fA fB K ∗ coreIn fA fB c) ⊢ WP c (core E0 c) fun _ => coreOut fA fB c := by
  have hI := by_cells c (idle (F := F) c)
  have hP := by_cells c (place (F := F) c)
  have hT := by_dues (tok (F := F) c)
  rw [by_ms, by_ms] at hI hP
  unfold coreIn coreOut bufs owed rights rightsS
  rw [hI, hP, hT, rows_split c E0.zv]
  iintro ⟨#HK, HO, ⟨HA, Ho⟩, ⟨Hsrc, Hdst, Hps, ⟨Hzown, Hzv⟩⟩, ⟨Hc5, Hcp, Hcz⟩, ⟨Htg, Htp, Htz⟩, ⟨Hsp, Hsz⟩, ⟨Hpb, ⟨⟨Hpt0, Hpt1, Hpt2⟩, ⟨Hpf0, Hpf1, Hpf2⟩⟩, Hpzs, Hpzo, Hpzr⟩⟩
  imod (retires fA fB K c js) $$ [Hpzo] with Hizo
  · isplitr; · iexact HK
    iexact Hpzo
  ihave Hcp := (Entails.of_eq (by_ms (fun m => bigSepL qs fun q => crd (F := F) c (.pl false m q)))) $$ Hcp
  icases Hcp with ⟨Hc0, Hc1, Hc2⟩
  unfold core
  iapply (front fA fB K c _ _)
  isplitl [HO HA]
  · isplitr; · iexact HK
    isplitl [HO] <;> iassumption
  isplitl [Htg Hdst Hzv]
  · isplitl [Htg]; · iexact Htg
    isplitl [Hdst]; · iexact Hdst
    rw [← lend_pairs]; iexact Hzv
  isplitl [Hsrc]; · iexact Hsrc
  isplitl [Hc5 Hpb]
  · isplitl [Hc5] <;> iassumption
  isplitl [Htp]; · iexact Htp
  isplitl [Hsp]; · iexact Hsp
  isplitl [Hc0 Hpf0]
  · rw [due1_row]
    isplitl [Hc0] <;> iassumption
  rw [stageOut_row]
  iintro %_ ⟨⟨HA, HS⟩, ⟨⟨Hif0, Hrr, Hcs1⟩, Hcs2⟩, Hib, Hcs0, Hduo⟩
  iapply (wp_use c (back fA fB K c))
  rw [due1_row, due1_row, due1_row, due1_row, due1_row, wayZ_all, dueZ_all c (fun j e => .zr j (zp e c))]
  isplitl [HA HS Hps Ho Hc1 Hc2 Hpf1 Hpf2 Htz Hsz Hduo Hcz Hpzr Hcs0 Hpt0 Hcs1 Hpt1 Hcs2 Hpt2 Hpzs]
  · isplitl [HA HS]
    · isplitl [HA] <;> iassumption
    isplitl [Hps Ho]
    · isplitl [Hps] <;> iassumption
    isplitl [Hc1 Hc2 Hpf1 Hpf2]
    · isplitl [Hc2 Hpf2]
      · isplitl [Hc2] <;> iassumption
      · isplitl [Hc1] <;> iassumption
    isplitl [Htz Hsz Hduo]
    · isplitl [Htz]; · iexact Htz
      isplitl [Hsz] <;> iassumption
    isplitl [Hcz Hpzr]
    · isplitl [Hcz] <;> iassumption
    isplitl [Hcs0 Hpt0 Hcs1 Hpt1 Hcs2 Hpt2]
    · isplitl [Hcs0 Hpt0]
      · isplitl [Hcs0] <;> iassumption
      isplitl [Hcs1 Hpt1]
      · isplitl [Hcs1] <;> iassumption
      isplitl [Hcs2] <;> iassumption
    iexact Hpzs
  iintro %_ ⟨⟨HA, HO, Ho⟩, ⟨⟨Hps, Hzv⟩, ⟨Hrd, Hrc⟩, ⟨Hb0, Hb1, Hb2⟩⟩, ⟨⟨Hit0, Hit1, Hit2⟩, ⟨Hif1, Hif2⟩, Hizs, Hizr⟩⟩
  isplitl [HO]; · iexact HO
  isplitl [HA Ho]
  · isplitl [HA] <;> iassumption
  isplitl [Hps Hzv Hzown Hrd Hrc Hrr Hb0 Hb1 Hb2]
  · isplitl [Hb0 Hb1 Hb2]
    · rw [by_ms (fun m => bigSepL qs fun q => rowE (F := F) c (srcM m) q)]
      isplitl [Hb0]; · iexact Hb0
      isplitl [Hb1] <;> iassumption
    isplitl [Hrr Hrc Hrd]
    · rw [by_ms (fun m => bigSepL qs fun q => rowE (F := F) c (dstM m) q)]
      isplitl [Hrr]; · iexact Hrr
      isplitl [Hrc] <;> iassumption
    isplitl [Hps]; · iexact Hps
    isplitl [Hzown] <;> iassumption
  isplitl [Hib]; · iexact Hib
  isplitl [Hit0 Hit1 Hit2 Hif0 Hif1 Hif2]
  · isplitl [Hit0 Hit1 Hit2]
    · isplitl [Hit0]; · iexact Hit0
      isplitl [Hit1] <;> iassumption
    isplitl [Hif0]; · iexact Hif0
    isplitl [Hif1] <;> iassumption
  isplitl [Hizs]; · iexact Hizs
  isplitl [Hizo] <;> iassumption

end Cert.KernelIdeal.Rs
-- ==== Proof.Ends.lean ====
/- Buffers taken apart when the program starts, and put together when it ends. -/
module

public import proofs.«01_k».proof.Proof.Core

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## Scratch buffers -/

theorem buf_join (c : Dev nD) (M : Buf4) : (bigSepL qs fun q => rowE (F := F) c M q)
    ⊢ (iprop(∃ f : Buf (Elt F) (M.view.loc (c : Thread nD τ)), (M.view.loc (c : Thread nD τ) ↦[M.view.set]{fullShare} f)) : sProp 𝕄) := by
  have e : (bigSepL qs fun q => rowE (F := F) c M q) = bigSep Finset.univ (fun t : Fin 8 × Fin 4 => slotE (F := F) c M t.1 t.2) := by
    rw [BI.bigSep_univ_prod, bigSep_univ_eq_bigSepL qs qs_univ (by decide)]
    congr 1
    funext q
    exact (bigSep_univ_eq_bigSepL zs zs_univ (by decide) _).symm
  rw [e]
  haveI : ∀ t : Fin 8 × Fin 4, Nonempty ((slotR t.1 t.2).shape.Idx → Elt F .f32) :=
    fun t => ⟨fun _ => constant (F := F) ⟨0, ![]⟩ .f32 0#32 fun a => a.elim0⟩
  refine (BI.bigSep_mono fun t _ => winE_intro c M (slotR t.1 t.2)).trans ((BI.bigSep_exists_pi Finset.univ _).trans ?_)
  iintro ⟨%w, H⟩
  ihave Hf := (win_join c M (fun t : Fin 8 × Fin 4 => slotR t.1 t.2) w (fun t t' h => slot_disj h) _ (whole_cov M)) $$ H
  icases Hf with ⟨%f, -, H⟩
  iexists f
  iexact H

/-! ## The result -/

/-- Where a column lies in its chunk. -/
def oIdx (i : S64x1024.Idx) : S64x128.Idx := fun a => match a with
  | 0 => i 0
  | 1 => ⟨(i 1).val % 128, Nat.mod_lt _ (by decide)⟩
/-- The core's block of the result, its chunks side by side. -/
def outB (fA : CA F) (fB : CB F) (c : Dev nD) : (cc0_stg2_0 : Ref sig .tc).ty.Contents (Elt F) := fun i : S64x1024.Idx =>
  res fA fB c ⟨(i 1).val / 128, by have h : (i 1).val < 1024 := (i 1).isLt; omega⟩ (oIdx i)

theorem o_emb0 (q : Fin 8) (y : (oR q).shape.Idx) : ((oR q).emb y 0).val = (y 0).val := by
  show 0 + 1 * (y 0).val = _
  omega
theorem o_emb1 (q : Fin 8) (y : (oR q).shape.Idx) : ((oR q).emb y 1).val = 128 * q.val + (y 1).val := by
  show 128 * q.val + 1 * (y 1).val = _
  omega

theorem o_cover (i : S64x1024.Idx) : ∃ q : Fin 8, ∃ y : (oR q).shape.Idx, (oR q).emb y = i := by
  have h1 : (i 1).val < 1024 := (i 1).isLt
  refine ⟨⟨(i 1).val / 128, by omega⟩, oIdx i, ?_⟩
  funext a
  refine Fin.ext ?_
  match a with
  | 0 => exact o_emb0 _ _
  | 1 =>
    refine (o_emb1 _ _).trans ?_
    show 128 * ((i 1).val / 128) + (i 1).val % 128 = _
    omega

theorem outB_emb (fA : CA F) (fB : CB F) (c : Dev nD) (q : Fin 8) (y : (oR q).shape.Idx) : outB fA fB c ((oR q).emb y) = res fA fB c q y := by
  have hy : (y 1).val < 128 := (y 1).isLt
  unfold outB
  congr 1
  · refine Fin.ext ?_
    show ((oR q).emb y 1).val / 128 = _
    rw [o_emb1]; omega
  · funext a
    refine Fin.ext ?_
    match a with
    | 0 => exact o_emb0 q y
    | 1 =>
      show ((oR q).emb y 1).val % 128 = _
      rw [o_emb1]; omega

theorem o_disj (q q' : Fin 8) (h : q ≠ q') : Disjoint (oR q).set (oR q').set := by
  rw [Finset.disjoint_left]
  intro x hx hx'
  rw [Rect.mem_set_unit] at hx hx'
  have h1 := hx 1
  have h1' := hx' 1
  simp at h1 h1'
  exact h (Fin.ext (by omega))

theorem o_cov (x : (E0.o).view.ty.Idx) : x ∈ (Finset.univ : Finset (E0.o).view.ty.Idx) ↔ ∃ q : Fin 8, ∃ y ∈ (oR q).set, (E0.o).view.emb y = x := by
  refine ⟨fun _ => ?_, fun _ => Finset.mem_univ _⟩
  obtain ⟨q, y, hy⟩ := o_cover x
  exact ⟨q, (oR q).emb y, (oR q).idx_mem y, hy⟩

theorem out_deal (c : Dev nD) (f : Buf (Elt F) ((c : Thread nD τ).loc cc0_stg2_0)) :
    ((c : Thread nD τ).loc cc0_stg2_0 ↦{fullShare} f) ⊢ (bigSepL qs fun q => winE c E0.o (oR q) : sProp 𝕄) := by
  rw [← bigSep_univ_eq_bigSepL qs qs_univ (by decide)]
  exact (win_deal c E0.o oR o_disj Finset.univ o_cov f).trans (BI.bigSep_mono fun q _ => win_forget c E0.o (oR q) _)

theorem out_join (fA : CA F) (fB : CB F) (c : Dev nD) :
    (bigSepL qs fun q => win c E0.o (oR q) (res fA fB c q)) ⊢ ((c : Thread nD τ).loc cc0_stg2_0 ↦{fullShare} outB fA fB c : sProp 𝕄) := by
  rw [← bigSep_univ_eq_bigSepL qs qs_univ (by decide)]
  iintro H
  ihave Hf := (win_join c E0.o oR (fun q => res fA fB c q) o_disj Finset.univ o_cov) $$ H
  icases Hf with ⟨%f, %hf, H⟩
  have e : f = outB fA fB c := by
    funext i
    obtain ⟨q, y, rfl⟩ := o_cover i
    rw [outB_emb]
    exact congrFun (hf q) y
  subst e
  iexact H

end Cert.KernelIdeal.Rs
-- ==== Proof.StructEq.lean ====
/- The printed body is the program of loops.

   The printed body comes in parts that hand each other the words of the index arithmetic, which no
   effect reads. `Pre p q Post` says that `q` begins with the effects of `p` and that `Post` holds of
   the result of `p` and of what is left of `q`; a word handed on is forgotten there, so that no part
   sees how an earlier one computed it. -/
module

public import proofs.«01_k».proof.Proof.Struct

@[expose] public section

noncomputable section

namespace Cert.KernelIdeal.Rs

open Idealize.ShloMosaic Idealize.ShloMosaic.TcCoe Idealize.SL.Sem Cert.KernelIdeal Cert.KernelIdeal.Gen

variable {F : FTy → Type} [FloatOps F]

/-- A program of the kernel's effects with a result. -/
abbrev PrA (F : FTy → Type) [FloatOps F] (α : Type) := Prog (TpuEff nD τ sig (Elt F) Λ₀ .tc) α

/-- `q` begins with the effects of `p`, and `Post` holds of the result and of the rest. -/
inductive Pre {α : Type} : PrA F α → Pr F → (α → Pr F → Prop) → Prop
  | ret {a : α} {q : Pr F} {Post : α → Pr F → Prop} : Post a q → Pre (.ret a) q Post
  | op {β : Type} {e : TpuEff nD τ sig (Elt F) Λ₀ .tc β} {k : β → PrA F α} {k' : β → Pr F} {Post : α → Pr F → Prop} :
      (∀ v, Pre (k v) (k' v) Post) → Pre (.op e k) (.op e k') Post

/-- What is claimed of a part's result and of the rest. -/
structure After {α : Type} (Post : α → Pr F → Prop) (a : α) (q : Pr F) : Prop where
  holds : Post a q

/-- One effect on each side. -/
theorem Pre.step {α β : Type} {e : TpuEff nD τ sig (Elt F) Λ₀ .tc β} {p : PrA F α} {k : β → PrA F α} {k' : β → Pr F}
    {K : PUnit → Pr F} {Post : α → Pr F → Prop} (hp : p = .op e k) (h : ∀ v, Pre (k v) ((k' v).bind K) Post) :
    Pre p ((Prog.op e k').bind K) Post := by
  subst hp; exact .op h

/-- What is left of `q` is brought to a first effect: a loop runs its first turn, -/
theorem Pre.turn {α β : Type} {p : PrA F α} {b : β} {l : List β} {f : β → Pr F} {K : PUnit → Pr F} {Post : α → Pr F → Prop}
    (h : Pre p ((f b).bind fun _ => (forL l f).bind K) Post) : Pre p ((forL (b :: l) f).bind K) Post := by
  have e : (forL (b :: l) f).bind K = (f b).bind fun _ => (forL l f).bind K := Prog.bind_assoc _ _ _
  rw [e]; exact h

/-- or ends, -/
theorem Pre.over {α β : Type} {p : PrA F α} {f : β → Pr F} {K : PUnit → Pr F} {Post : α → Pr F → Prop}
    (h : Pre p (K ⟨⟩) Post) : Pre p ((forL [] f).bind K) Post := h

/-- a sequence starts with its first program, -/
theorem Pre.assoc {α : Type} {p : PrA F α} {p' : Pr F} {K K' : PUnit → Pr F} {Post : α → Pr F → Prop}
    (h : Pre p (p'.bind fun x => (K x).bind K') Post) : Pre p ((p'.bind K).bind K') Post := by
  have e : (p'.bind K).bind K' = p'.bind fun x => (K x).bind K' := Prog.bind_assoc _ _ _
  rw [e]; exact h

/-- and a program that is over gives way to the next. -/
theorem Pre.next {α : Type} {p : PrA F α} {x : PUnit} {K : PUnit → Pr F} {Post : α → Pr F → Prop}
    (h : Pre p (K x) Post) : Pre p ((Prog.ret x).bind K) Post := h

/-- The chunks of a pair are these. -/
theorem Pre.pair0 {α : Type} {p : PrA F α} {f : Fin 8 → Pr F} {K : PUnit → Pr F} {Post : α → Pr F → Prop}
    (h : Pre p ((forL [0, 1] f).bind K) Post) : Pre p ((forL (pair 0) f).bind K) Post := h
theorem Pre.pair1 {α : Type} {p : PrA F α} {f : Fin 8 → Pr F} {K : PUnit → Pr F} {Post : α → Pr F → Prop}
    (h : Pre p ((forL [2, 3] f).bind K) Post) : Pre p ((forL (pair 1) f).bind K) Post := h
theorem Pre.pair2 {α : Type} {p : PrA F α} {f : Fin 8 → Pr F} {K : PUnit → Pr F} {Post : α → Pr F → Prop}
    (h : Pre p ((forL [4, 5] f).bind K) Post) : Pre p ((forL (pair 2) f).bind K) Post := h
theorem Pre.pair3 {α : Type} {p : PrA F α} {f : Fin 8 → Pr F} {K : PUnit → Pr F} {Post : α → Pr F → Prop}
    (h : Pre p ((forL [6, 7] f).bind K) Post) : Pre p ((forL (pair 3) f).bind K) Post := h

/-- A result. -/
theorem Pre.done {α : Type} {a : α} {p : PrA F α} {q : Pr F} {Post : α → Pr F → Prop} (hp : p = .ret a) (h : After Post a q) :
    Pre p q Post := by subst hp; exact .ret h.holds

/-- A part followed by the rest. -/
theorem Pre.seq {α β : Type} {p : PrA F β} {K : β → PrA F α} {q : Pr F} {Post : α → Pr F → Prop}
    (h : Pre p q fun b q' => Pre (K b) q' Post) : Pre (p >>= K) q Post := by
  generalize hP : (fun (b : β) (q' : Pr F) => Pre (K b) q' Post) = P at h
  induction h with
  | ret h => subst hP; exact h
  | op _ ih => exact .op fun v => ih v hP

/-- A word at the head of a tuple may be any; -/
theorem After.word {n : Nat} {β : Type} {w : BitVec n} {b : β} {Post : (Σ' _ : BitVec n, β) → Pr F → Prop} {q : Pr F}
    (h : ∀ w : BitVec n, After (fun b q => Post ⟨w, b⟩ q) b q) : After Post ⟨w, b⟩ q := ⟨(h w).holds⟩

/-- anything else there is kept; -/
theorem After.keep {α β : Type} {a : α} {b : β} {Post : (Σ' _ : α, β) → Pr F → Prop} {q : Pr F}
    (h : After (fun b q => Post ⟨a, b⟩ q) b q) : After Post ⟨a, b⟩ q := ⟨h.holds⟩

/-- so may a word that is the whole result; -/
theorem After.lastWord {n : Nat} {w : BitVec n} {Post : BitVec n → Pr F → Prop} {q : Pr F}
    (h : ∀ w : BitVec n, Post w q) : After Post w q := ⟨h w⟩

/-- and any other result is kept. -/
theorem After.last {α : Type} {a : α} {Post : α → Pr F → Prop} {q : Pr F} (h : Post a q) : After Post a q := ⟨h⟩

/-- A program all of whose effects are `q`'s is `q`. -/
theorem Pre.eq {p q : Pr F} (h : Pre p q fun _ q' => q' = .ret ⟨⟩) : p = q := by
  generalize hP : (fun (_ : PUnit) (q' : Pr F) => q' = .ret ⟨⟩) = P at h
  induction h with
  | ret h => subst hP; exact h.symm
  | op _ ih => congr 1; exact funext fun v => ih v hP

set_option maxRecDepth 65536 in
set_option maxHeartbeats 0 in
/-- The body the kernel prints is `body`. -/
theorem body_eq (E : Env) (h0 : E.a.IsWhole) (h1 : E.b.IsWhole) (h2 : E.o.IsWhole) (h3 : E.sd.IsWhole) (h4 : E.sr.IsWhole)
    (h5 : E.sc.IsWhole) (h6 : E.rd.IsWhole) (h7 : E.rr.IsWhole) (h8 : E.rc.IsWhole) (h9 : E.ps.IsWhole) (h10 : E.zv.IsWhole) :
    cc0_body (F := F) E.a h0 E.b h1 E.o h2 E.sd h3 E.sr h4 E.sc h5 E.rd h6 E.rr h7 E.rc h8 E.ps h9 E.zv h10
      E.sdS E.sdR E.srS E.srR E.scS E.scR E.zS E.zR = body E := by
  refine Pre.eq ?_
  rw [show (body E : Pr F) = (body E).bind .ret from (Prog.bind_pure _).symm]
  repeat first
    | with_reducible refine Pre.seq ?_
    | refine After.word fun _ => ?_
    | refine After.keep ?_
    | refine After.lastWord fun _ => ?_
    | refine After.last ?_
    | with_reducible refine Pre.next ?_
    | with_reducible refine Pre.over ?_
    | with_reducible refine Pre.turn ?_
    | with_reducible refine Pre.assoc ?_
    | with_reducible refine Pre.pair0 ?_
    | with_reducible refine Pre.pair1 ?_
    | with_reducible refine Pre.pair2 ?_
    | with_reducible refine Pre.pair3 ?_
    | refine Pre.done rfl ?_
    | refine Pre.seq ?_
    | refine Pre.step rfl fun _ => ?_
  rfl

end Cert.KernelIdeal.Rs
-- ==== Proof.Point.lean ====
/- The kernel's one point: what it is launched with, and what it leaves. -/
module

public import proofs.«01_k».proof.Proof.Ends
public import proofs.«01_k».proof.Proof.StructEq
public import proofs.«01_k».proof.Proof.Gen.KernelIdeal.Launch
public import proofs.«01_k».proof.Proof.Gen.KernelIdeal.Points

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

open Pipeline (Dat BodyObligation)

/-! ## The scratch buffers -/

/-- One scratch buffer, whole. -/
theorem whole_eq (c : Dev nD) (b : Ref sig .tc) (M : Memref sig .tc .vmem S8x4x64x128 .f32) (hv : M.view.set = Finset.univ) (f : Buf (Elt F) (M.view.loc (c : Thread nD τ))) :
    (M.view.loc (c : Thread nD τ) ↦[M.view.set]{fullShare} f : sProp 𝕄) = (M.view.loc (c : Thread nD τ) ↦{fullShare} f) := by rw [hv]

theorem scr_open (c : Dev nD) : (Pipeline.scopedRest cfg0.spec c : sProp 𝕄) ⊢ bufs c := by
  have deal : ∀ (M : Buf4) (hv : M.view.set = Finset.univ), (iprop(∃ f : Buf (Elt F) (M.view.loc (c : Thread nD τ)), M.view.loc (c : Thread nD τ) ↦{fullShare} f) : sProp 𝕄)
      ⊢ bigSepL qs fun q => rowE (F := F) c M q := fun M hv => by
    iintro ⟨%f, H⟩
    iapply (buf_deal c M f)
    rw [hv]
    iexact H
  rw [show (Pipeline.scopedRest cfg0.spec c : sProp 𝕄) = _ from scopedRest0_eq c]
  unfold bufs
  rw [by_ms (fun m => bigSepL qs fun q => rowE (F := F) c (srcM m) q), by_ms (fun m => bigSepL qs fun q => rowE (F := F) c (dstM m) q)]
  iintro ⟨H0, H1, H2, H3, H4, H5, H6, H7⟩
  isplitl [H1 H2 H0]
  · isplitl [H1]; · iapply (deal E0.sr (View.set_whole _)); iexact H1
    isplitl [H2]; · iapply (deal E0.sc (View.set_whole _)); iexact H2
    iapply (deal E0.sd (View.set_whole _)); iexact H0
  isplitl [H4 H5 H3]
  · isplitl [H4]; · iapply (deal E0.rr (View.set_whole _)); iexact H4
    isplitl [H5]; · iapply (deal E0.rc (View.set_whole _)); iexact H5
    iapply (deal E0.rd (View.set_whole _)); iexact H3
  isplitl [H6]; · iapply (deal E0.ps (View.set_whole _)); iexact H6
  iapply (deal E0.zv (View.set_whole _)); iexact H7

theorem scr_close (c : Dev nD) : bufs c ⊢ (Pipeline.scopedRest cfg0.spec c : sProp 𝕄) := by
  have join : ∀ (M : Buf4) (hv : M.view.set = Finset.univ), (bigSepL qs fun q => rowE (F := F) c M q)
      ⊢ (iprop(∃ f : Buf (Elt F) (M.view.loc (c : Thread nD τ)), M.view.loc (c : Thread nD τ) ↦{fullShare} f) : sProp 𝕄) := fun M hv => by
    have h := buf_join (F := F) c M
    rw [hv] at h
    exact h
  rw [show (Pipeline.scopedRest cfg0.spec c : sProp 𝕄) = _ from scopedRest0_eq c]
  unfold bufs
  rw [by_ms (fun m => bigSepL qs fun q => rowE (F := F) c (srcM m) q), by_ms (fun m => bigSepL qs fun q => rowE (F := F) c (dstM m) q)]
  iintro ⟨⟨H1, H2, H0⟩, ⟨H4, H5, H3⟩, H6, H7⟩
  isplitl [H0]; · iapply (join E0.sd (View.set_whole _)); iexact H0
  isplitl [H1]; · iapply (join E0.sr (View.set_whole _)); iexact H1
  isplitl [H2]; · iapply (join E0.sc (View.set_whole _)); iexact H2
  isplitl [H3]; · iapply (join E0.rd (View.set_whole _)); iexact H3
  isplitl [H4]; · iapply (join E0.rr (View.set_whole _)); iexact H4
  isplitl [H5]; · iapply (join E0.rc (View.set_whole _)); iexact H5
  isplitl [H6]; · iapply (join E0.ps (View.set_whole _)); iexact H6
  iapply (join E0.zv (View.set_whole _)); iexact H7

/-! ## The launch's data -/

variable (m : (ℓ : Loc nD τ sig) → Buf (Elt F) ℓ) (ρ : Dev nD → PrngReg)

def s₀ : MemSt nD τ sig (Elt F) := ⟨m, fun _ => 0, ρ⟩

/-- The cores' blocks of the two arguments, as they are staged. -/
def stA : CA F := fun c => (win0_0.blk (0 : Fin 1)).view.read (Elt F) ((s₀ m ρ).mem ((c : Thread nD τ).loc main_arg0))
def stB : CB F := fun c => (win0_1.blk (0 : Fin 1)).view.read (Elt F) ((s₀ m ρ).mem ((c : Thread nD τ).loc main_arg1))

/-- The rights and places a core starts with. -/
def ghost (K : Dev nD × Cl → ℕ) (c : Dev nD) : sProp 𝕄 := iprop(recs (stA m ρ) (stB m ρ) K ∗ rights c ∗ rightsS c ∗ bigSep Finset.univ (place c))
def start (c : Dev nD) : sProp 𝕄 := iprop((∃ K, ghost m ρ K c) ∗ levs ∗ owed c)

def Φ₀ (c : Dev nD) : sProp 𝕄 := iprop(start m ρ c ∗ Pipeline.scopedRest cfg0.spec c)
def Φ₁ (c : Dev nD) : sProp 𝕄 := iprop(Pipeline.scopedRest cfg0.spec c ∗ bigSep Finset.univ (idle c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stA m ρ c
    | ⟨1, _⟩ => stB m ρ c
    | ⟨2, _⟩ => outB (stA m ρ) (stB m ρ) c
  Φ t := match t with
    | ⟨0, _⟩ => Φ₀ m ρ c
    | ⟨_ + 1, _⟩ => Φ₁ c
  q _ := fullShare
  owed t := match t with
    | ⟨0, _⟩ => owedL c oblig
    | ⟨_ + 1, _⟩ => 0

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (stA m ρ c) ∗ stg c cc0_stg1_0 (stB m ρ c) ∗ stg c cc0_stg2_0 (outB (stA m ρ) (stB m ρ) c))

theorem sound_body (c : Dev nD) : bodyPre m ρ c ⊢ WP c (body (F := F) E0) fun _ => bodyPost m ρ c := by
  unfold bodyPre Φ₀ start ghost
  iintro ⟨⟨⟨⟨%K, HR, HT, HTS, HP⟩, HL, Hw⟩, Hscr⟩, Ho, ⟨%d0, %g0, %h0, HA⟩, ⟨%d1, %g1, %h1, HB⟩, ⟨%d2, %g2, -, HO⟩⟩
  have e0 : g0 = stA m ρ c := by rw [h0]; unfold Dat.before; rw [if_pos (fetch0_0 _)]; rfl
  have e1 : g1 = stB m ρ c := by rw [h1]; unfold Dat.before; rw [if_pos (fetch0_1 _)]; rfl
  subst e0 e1
  unfold Dat.owesAt Pipeline.owesWithin
  icases Ho with ⟨%W, %hW, Ho⟩
  rw [show (dats m ρ 0 c).owed t0_0.castSucc = owedL c oblig from rfl]
  unfold body
  simp only [wp_deviceId]
  iapply (wp_use c (core_ok (stA m ρ) (stB m ρ) K c))
  isplitl [HR HL Ho HA HB HO Hscr Hw HT HTS HP]
  · isplitl [HR HL]
    · unfold know
      isplitl [HR] <;> iassumption
    unfold coreIn
    isplitl [Ho]; · unfold owe; iexists W; iexact Ho
    isplitl [HA HB HO]
    · isplitl [HA HB]
      · unfold args inA inB
        isplitl [HA] <;> iassumption
      iapply (out_deal c g2); iexact HO
    isplitl [Hscr]; · iapply (scr_open c); iexact Hscr
    isplitl [Hw]; · iexact Hw
    isplitl [HT]; · iexact HT
    isplitl [HTS] <;> iassumption
  unfold coreOut
  iintro %_ ⟨Ho, ⟨HA, HO⟩, Hscr, Hi⟩
  unfold bodyPost Φ₁ Dat.owesAt Pipeline.owesWithin
  rw [show (dats m ρ 0 c).owed t0_0.succ = 0 from rfl]
  isplitl [Hscr Hi]
  · isplitl [Hscr]; · iapply (scr_close c); iexact Hscr
    iexact Hi
  isplitl [Ho]
  · unfold owe
    icases Ho with ⟨%W', Ho⟩
    iexists W'
    isplitr; · ipureintro; exact fun _ _ => Or.inl trivial
    iexact Ho
  unfold args inA inB
  icases HA with ⟨HA, HB⟩
  isplitl [HA]
  · iexists _; isplitr; · (ipureintro; rfl)
    iexact HA
  isplitl [HB]
  · iexists _; isplitr; · (ipureintro; rfl)
    iexact HB
  iexists outB (stA m ρ) (stB m ρ) c; isplitr; · (ipureintro; rfl)
  iapply (out_join (stA m ρ) (stB m ρ) c); iexact HO

/-- The program of the kernel's point. -/
theorem point_body : (defs₀ (F := F)) Proc.tc 0 (t0_0, cfg0.slots t0_0) = body (F := F) E0 :=
  (show (defs₀ (F := F)) Proc.tc 0 (t0_0, cfg0.slots t0_0) = cc0_body E0.a (hstage0_0 0) E0.b (hstage0_1 0) E0.o (hstage0_2 0) E0.sd (Memref.isWhole_whole _) E0.sr (Memref.isWhole_whole _)
    E0.sc (Memref.isWhole_whole _) E0.rd (Memref.isWhole_whole _) E0.rr (Memref.isWhole_whole _) E0.rc (Memref.isWhole_whole _) E0.ps (Memref.isWhole_whole _)
    E0.zv (Memref.isWhole_whole _) E0.sdS E0.sdR E0.srS E0.srR E0.scS E0.scR E0.zS E0.zR from rfl).trans (body_eq E0 _ _ _ _ _ _ _ _ _ _ _)

/-- The body, as the launch asks for it. -/
theorem body_obligation (c : Dev nD) : BodyObligation (dats (F := F) m ρ 0 c) (defs₀ (F := F)) 𝒱₀ () Set.univ := fun t => by
  rw [fin_N0 t]
  have hW := fun (Φ : Fin cfg0.W → sProp 𝕄) => bigSep_W0 Φ
  rw [hW, hW]
  simp only [owns_stg]
  rw [point_body]
  have hb := sound_body m ρ c
  unfold bodyPre bodyPost at hb
  have p0 : (dats m ρ 0 c).Φ t0_0.castSucc = Φ₀ m ρ c := rfl
  have p1 : (dats m ρ 0 c).Φ t0_0.succ = Φ₁ c := rfl
  have a0 : (dats m ρ 0 c).after (0 : Fin 3) t0_0 = stA m ρ c := rfl
  have a1 : (dats m ρ 0 c).after (1 : Fin 3) t0_0 = stB m ρ c := rfl
  have a2 : (dats m ρ 0 c).after (2 : Fin 3) t0_0 = outB (stA m ρ) (stB m ρ) c := rfl
  rw [p0, p1]
  rw [← a0, ← a1, ← a2] at hb
  iintro H
  iapply hb
  iexact H

end Cert.KernelIdeal.Rs
-- ==== Proof.Credit.lean ====
/- What the cores owe at the launch is what they are given to wait with. -/
module

public import proofs.«01_k».proof.Proof.Point

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## The credit of the launch -/

/-- What core `c` owes by one due. -/
def tl (o : Ob) (c : Dev nD) : CellTallies nD τ sig Unit := tallyAt (kcell (item o c)) () (amt (item o c).2)

theorem owedL_sum (c : Dev nD) (l : List Ob) : owedL c l = (l.map fun o => tl o c).sum := by
  induction l with
  | nil => rfl
  | cons o l ih => rw [List.map_cons, List.sum_cons, add_comm, ← ih]; rfl

theorem owedL_all (c : Dev nD) : owedL c oblig = ∑ o : Ob, tl o c := by
  rw [oblig_univ, List.sum_toFinset _ oblig_nodup, owedL_sum]

/-- What is owed to core `c`. -/
def comes (c : Dev nD) : CellTallies nD τ sig Unit := ∑ o : Ob, tl o (src o c)

/-- Each due goes from every core to every core, once. -/
def dueRing (o : Ob) : Dev nD ≃ Dev nD := ⟨src o, fun c => (item o c).1, item_src o, src_item o⟩

theorem owed_comes : (∑ c : Dev nD, owedL c oblig) = ∑ c : Dev nD, comes c := by
  simp only [owedL_all]
  unfold comes
  rw [Finset.sum_comm, Finset.sum_comm (f := fun c o => tl o (src o c))]
  exact Finset.sum_congr rfl fun o _ => (Equiv.sum_comp (dueRing o) (tl o)).symm

theorem item_at (o : Ob) (c : Dev nD) : item o (src o c) = (c, (item o (src o c)).2) := Prod.ext (item_src o c) rfl

theorem comes_at (c : Dev nD) (g : GSem nD τ sig) (h : comes c g ≠ 0) : g.1 = (c : Thread nD τ) := by
  by_contra hne
  refine h ?_
  unfold comes
  rw [Finset.sum_apply]
  refine Finset.sum_eq_zero fun o _ => ?_
  unfold tl
  rw [item_at]
  have hc : g ≠ kcell (c, (item o (src o c)).2) := fun e => hne (congrArg Prod.fst e)
  exact tallyAt_ne_cell hc _ _

theorem comes_gr (i : Fin 5) (c : Dev nD) : tl (.gr i) (src (.gr i) c) = tallyAt (kcell (c, .bar)) () 1 := by
  unfold tl; rw [item_at]; rfl
theorem comes_pl (m : Fin 3) (q : Fin 8) (c : Dev nD) : tl (.pl m q) (src (.pl m q) c) = tallyAt (kcell (c, .pl false m q)) () (amt (.pl false m q)) := by
  unfold tl; rw [item_at]; rfl
theorem comes_zz (j : Fin 4) (e : Fin 3) (c : Dev nD) : tl (.zz j e) (src (.zz j e) c) = tallyAt (kcell (c, .zr j (pz (zf e c)))) () (amt (.zr j (pz (zf e c)))) := by
  unfold tl; rw [item_at]; rfl

/-- What a core waits with is what is owed to it. -/
theorem launch_owed (c : Dev nD) : (Pipeline.launchCred (fun d => owedL d oblig) c : sProp 𝕄) ⊢ owed c := by
  rw [Pipeline.launchCred_of_sum (fun d => owedL d oblig) comes owed_comes comes_at c]
  unfold comes
  rw [Pipeline.cred_finsetSum Finset.univ fun o => tl o (src o c), by_dues]
  simp only [comes_gr, comes_pl, comes_zz]
  unfold owed
  obtain ⟨h0, h1, h2⟩ := zf_eq c
  have hz : (bigSepL js fun j => bigSepL ds fun e => (cred (tallyAt (kcell (c, .zr j (pz (zf e c)))) () (amt (.zr j (pz (zf e c))))) : sProp 𝕄))
      ⊢ bigSepL js fun j => bigSepL ds fun e => crd c (.zr j (zp e c)) := by
    refine bigSepL_mono (l := js) fun j _ => ?_
    unfold crd
    simp only [bigSepL_cons', bigSepL_nil, h0, h1, h2, pz_zt]
    iintro ⟨H2, H1, H0, He⟩
    isplitl [H0]; · iexact H0
    isplitl [H1]; · iexact H1
    isplitl [H2]; · iexact H2
    iexact He
  have hb : (bigSepL [(0 : Fin 5), 1, 2, 3, 4] fun _ => (cred (tallyAt (kcell (c, .bar)) () 1) : sProp 𝕄)) ⊢ cred (tallyAt (kcell (c, .bar)) () 5) := by
    have s (n : ℕ) : iprop(cred (tallyAt (kcell (c, .bar)) () n) ∗ cred (tallyAt (kcell (c, .bar)) () 1)) ⊢ (cred (tallyAt (kcell (c, .bar)) () (n + 1)) : sProp 𝕄) := by
      rw [← tallyAt_add]; exact (cred_add _ _).2
    simp only [bigSepL_cons', bigSepL_nil]
    iintro ⟨H0, H1, H2, H3, H4, -⟩
    ihave H := (s 1) $$ [H0 H1]
    · isplitl [H0] <;> iassumption
    ihave H' := (s 2) $$ [H H2]
    · isplitl [H] <;> iassumption
    ihave H'' := (s 3) $$ [H' H3]
    · isplitl [H'] <;> iassumption
    iapply (s 4)
    isplitl [H''] <;> iassumption
  iintro ⟨HB, HP, HZ⟩
  isplitl [HB]; · iapply hb; iexact HB
  isplitl [HP]; · iexact HP
  iapply hz; iexact HZ

end Cert.KernelIdeal.Rs
-- ==== Proof.Launch.lean ====
/- The launch: every core's semaphores are put under the protocol at once, and all the cores run. -/
module

public import proofs.«01_k».proof.Proof.Credit
public import Idealize.ShloMosaic.Lib.Pipeline.CollectiveSegs

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

open Pipeline (Dat BodyObligation)

/-! ## The semaphores at the launch -/

/-- A kernel's own semaphores: all of the protocol's but the barrier. -/
abbrev OK : Type := (Bool × Fin 3 × Fin 8) ⊕ (Fin 4 × Fin 3) ⊕ (Fin 4 × Fin 4)
def osem (k : OK) : SemLoc sig := csem (.inr k)

theorem own_num (k : OK) : 3 ≤ cnum (osem k) := by
  match k with
  | .inl (s, i, q) => exact (pl_lt s i q).1
  | .inr (.inl (j, e)) => have := cnum_zs j e; unfold osem; rw [this]; omega
  | .inr (.inr (j, z)) => have := cnum_zr j z; unfold osem; rw [this]; omega

/-- The windows' semaphores have the numbers below. -/
theorem stage_num : ∀ w s, cnum (.dma ((cfg0.win w).sem s)) < 3 := by decide +kernel

theorem own_scoped : ∀ k : OK, (osem k).isScoped .tc = true := by decide +kernel

theorem ownSemFacts : Pipeline.OwnSemFacts cfg0.spec osem where
  isScoped := own_scoped
  inj := fun _ _ h => Sum.inr_injective (csem_injective h)
  disj := fun k w s h => by
    have h1 := own_num k
    have h2 : cnum (osem k) < 3 := by rw [h]; exact stage_num w s
    omega

theorem stage_lv (c : Dev nD) (w : Fin cfg0.W) (s) : lv ((c : Thread nD τ), .dma ((cfg0.win w).sem s)) () = 0 := by
  have h : dec (.dma ((cfg0.win w).sem s)) = none := by
    unfold dec
    refine dif_neg ?_
    rintro ⟨k, hk⟩
    match k with
    | .inl _ => exact absurd hk (by intro h; cases h)
    | .inr k => exact ownSemFacts.disj k w s hk
  show (match dec (.dma ((cfg0.win w).sem s)) with | some k => lvl k | none => 0) = 0
  rw [h]

theorem lvO_pos (o : Ob) : 0 < lvO o := by
  match o with
  | .gr _ => exact Nat.one_pos
  | .pl i _ => show 0 < if i = 0 then 2 else 3; split <;> omega
  | .zz _ _ => exact Nat.succ_pos _

theorem unscoped_eq (c : Dev nD) : (unscopedSems0 c : sProp 𝕄) = idle c .bar := by
  unfold unscopedSems0
  rw [bigSep_eq_bigSepL_of_eq [SemLoc.reg barS] (by decide +kernel) (by decide)]
  rfl

/-- A core's semaphores are its kernel's own and the barrier. -/
theorem sems_eq (c : Dev nD) : (bigSep Finset.univ (idle c) : sProp 𝕄)
    = iprop(unscopedSems0 c ∗ Pipeline.ownSems0 (Ix := Unit) (Name := ℕ) (U := UU) (Lvl := ℕ) (Val := Elt F) (τ := τ) osem c) := by
  rw [BI.bigSep_univ_sum, unscoped_eq, bigSep_univ_eq_bigSepL [()] (by decide) (by decide)]
  rfl

/-! ## The ghost state at the launch -/

def cells : Finset (GSem nD τ sig) := Finset.univ.map ⟨kcell, kcell_injective⟩

/-- The semaphores by which a core learns that a copy has left. -/
abbrev Out : Type := (Fin 3 × Fin 8) ⊕ (Fin 4 × Fin 3)
def outCl : Out → Cl
  | .inl (i, q) => .pl true i q
  | .inr (j, e) => .zs j e
theorem outCl_inj : Function.Injective outCl := by
  intro a b h
  match a, b with
  | .inl (i, q), .inl (i', q') => simp [outCl] at h; rw [h.1, h.2]
  | .inr (j, e), .inr (j', e') => simp [outCl] at h; rw [h.1, h.2]
  | .inl (i, q), .inr (j, e) => simp [outCl] at h
  | .inr (j, e), .inl (i, q) => simp [outCl] at h
theorem outCl_ne (x : Out) (o : Ob) (c : Dev nD) : outCl x ≠ (item o c).2 := by
  match x, o with
  | .inl (_, _), .gr _ => simp [outCl, item]
  | .inl (_, _), .pl _ _ => simp [outCl, item]
  | .inl (_, _), .zz _ _ => simp [outCl, item]
  | .inr (_, _), .gr _ => simp [outCl, item]
  | .inr (_, _), .pl _ _ => simp [outCl, item]
  | .inr (_, _), .zz _ _ => simp [outCl, item]

def tokCl (x : Dev nD × (Ob ⊕ Out)) : Dev nD × Cl := match x.2 with
  | .inl o => item o x.1
  | .inr k => (x.1, outCl k)
def tokDue (x : Dev nD × (Ob ⊕ Out)) : Fin 5 := match x.2 with
  | .inl o => due o
  | .inr _ => 0
/-- The rights of the protocol, each listed under the core that uses it. -/
def tokOf (x : Dev nD × (Ob ⊕ Out)) : GSem nD τ sig × ℕ × Fin 5 := (kcell (tokCl x), 0, tokDue x)
theorem tokOf_injective : Function.Injective tokOf := by
  rintro ⟨c, k⟩ ⟨c', k'⟩ h
  have h1 := kcell_injective (show kcell (tokCl (c, k)) = kcell (tokCl (c', k')) from congrArg Prod.fst h)
  match k, k' with
  | .inl o, .inl o' =>
    obtain ⟨rfl, rfl⟩ := item_due o o' c c' h1 (congrArg (fun x : GSem nD τ sig × ℕ × Fin 5 => x.2.2) h)
    rfl
  | .inr x, .inr x' =>
    have e1 : c = c' := congrArg Prod.fst h1
    have e2 : outCl x = outCl x' := congrArg Prod.snd h1
    rw [e1, outCl_inj e2]
  | .inl o, .inr x => exact absurd (congrArg Prod.snd h1).symm (outCl_ne x o c)
  | .inr x, .inl o => exact absurd (congrArg Prod.snd h1) (outCl_ne x o c')
def toks : Finset (GSem nD τ sig × ℕ × Fin 5) := Finset.univ.map ⟨tokOf, tokOf_injective⟩

def u₀ : UU := (initOf (Pipeline.cells cfgs cellOf_inj) (Pipeline.launchToks cfgs cellOf_inj), initOf cells toks)

theorem toks_deal : (bigSep toks fun x => (dutyTok ER x.1 x.2.1 x.2.2 : sProp 𝕄)) = bigSep Finset.univ fun c : Dev nD => iprop(rights c ∗ rightsS c) := by
  unfold toks
  rw [BI.bigSep_map, BI.bigSep_univ_prod]
  refine BI.bigSep_congr fun c _ => ?_
  rw [BI.bigSep_univ_sum, BI.bigSep_univ_sum (fun b : Out => _), by_rows, by_pairs_planes]
  rfl

variable (m : (ℓ : Loc nD τ sig) → Buf (Elt F) ℓ) (ρ : Dev nD → PrngReg)

abbrev sched : Rounds.Schedule (GSem nD τ sig) (Fin 5) 𝕄 := Rd (stA m ρ) (stB m ρ)

/-- What the launch gives core `c`, -/
def G (c : Dev nD) : sProp 𝕄 :=
  iprop((bigSep Finset.univ fun k : Cl => roundState ER (sched m ρ) (kcell (c, k)) 0)
    ∗ (bigSep Finset.univ (place c) ∗ bigSep Finset.univ fun k : Cl => reached ER (kcell (c, k)) 0) ∗ rights c ∗ rightsS c)
/-- and what it has once the protocol is set up. -/
def G' (c : Dev nD) : sProp 𝕄 := iprop(∃ K, ghost m ρ K c)

theorem fund_all : BI.own (ER (initOf cells toks)) ⊢ (|==> bigSep Finset.univ (G m ρ) : sProp 𝕄) := by
  have hX (Φ : GSem nD τ sig → sProp 𝕄) : bigSep cells Φ = bigSep Finset.univ fun c : Dev nD => bigSep Finset.univ fun k : Cl => Φ (kcell (c, k)) := by
    unfold cells; rw [BI.bigSep_map, BI.bigSep_univ_prod]; rfl
  iintro HX
  imod (Rounds.fund ER (sched m ρ) cells toks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq toks_deal) $$ Htok
  unfold G; simp only [bigSep_sep']
  isplitl [Hst']; · iexact Hst'
  isplitl [Hat' Hr']
  · isplitl [Hat']; · iexact Hat'
    iexact Hr'
  iexact Htok'

/-- The protocol taken up at core `c`'s semaphores. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ (place c) ∗ bigSep Finset.univ fun k : Cl => reached ER (kcell (c, k)) 0) ∗ rights c ∗ rightsS c) := by
  unfold G
  iintro ⟨Hos, Hus, Hst, Hat, Htok⟩
  ihave Hv := (Entails.of_eq (sems_eq (F := F) c).symm) $$ [Hos Hus]
  · isplitl [Hus] <;> iassumption
  imod (show iprop(bigSep Finset.univ (idle c) ∗ bigSep Finset.univ fun k : Cl => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (BI.bigSep_mono fun k _ => (Rounds.body_intro ER (sched m ρ) (kcell (c, k))).trans inv_alloc).trans (BI.bigSep_fupd _ _)) $$ [Hv Hst] with Hinv
  · isplitl [Hv] <;> iassumption
  imodintro
  isplitl [Hinv]; · iexact Hinv
  isplitl [Hat]; · iexact Hat
  iexact Htok

/-- What is known to all goes to every core. -/
theorem deal_known {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact BI.bigSep_mono fun c _ => h c)

theorem ghost_intro (K : Dev nD × Cl → ℕ) (c : Dev nD) :
    iprop(recs (stA m ρ) (stB m ρ) K ∗ (bigSep Finset.univ (place c) ∗ rights c ∗ rightsS c)) ⊢ G' m ρ c := by
  unfold G' ghost
  iintro ⟨HK, HP, HT, HS⟩
  iexists K
  isplitl [HK]; · iexact HK
  isplitl [HT]; · iexact HT
  isplitl [HS] <;> iassumption

theorem regroup :
    (bigSep Finset.univ fun c : Dev nD => iprop((bigSep Finset.univ fun k => iprop(∃ κ : ℕ, cellInv ER (sched m ρ) κ (kcell (c, k))))
          ∗ (bigSep Finset.univ (place c) ∗ bigSep Finset.univ fun k : Cl => reached ER (kcell (c, k)) 0) ∗ rights c ∗ rightsS c) : sProp 𝕄)
      ⊢ bigSep Finset.univ (G' m ρ) := by
  rw [bigSep_sep', bigSep_sep', bigSep_sep' Finset.univ (fun c : Dev nD => bigSep Finset.univ (place c)),
    ← BI.bigSep_univ_prod (fun x : Dev nD × Cl => iprop(∃ κ : ℕ, cellInv ER (sched m ρ) κ (kcell x))),
    ← BI.bigSep_univ_prod (fun x : Dev nD × Cl => (reached ER (kcell x) 0 : sProp 𝕄))]
  haveI : DecidableEq (Dev nD × Cl) := Classical.decEq _
  iintro ⟨HI, ⟨Hat, HR⟩, Htok⟩
  ihave HK := (BI.bigSep_exists_pi Finset.univ (fun (x : Dev nD × Cl) (κ : ℕ) => (cellInv ER (sched m ρ) κ (kcell x) : sProp 𝕄))) $$ HI
  icases HK with ⟨%K, HI⟩
  iapply (deal_known (R := recs (stA m ρ) (stB m ρ) K) fun c => ghost_intro m ρ K c)
  isplitl [HI HR]
  · unfold recs
    rw [bigSep_sep' Finset.univ (fun x : Dev nD × Cl => cellInv ER (Rd (stA m ρ) (stB m ρ)) (K x) (kcell x))]
    isplitl [HI] <;> iassumption
  rw [bigSep_sep' Finset.univ (fun c : Dev nD => bigSep Finset.univ (place c))]
  isplitl [Hat] <;> iassumption

/-- The protocol taken up everywhere. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((BI.bigSep_mono fun c _ => core_alloc m ρ c).trans (BI.bigSep_fupd _ _)).trans (BI.fupd_mono (regroup m ρ))

/-! ## In and out -/

theorem start_intro (c : Dev nD) :
    iprop(Pipeline.unscopedRestP Pipeline.Prefetch.none cfg0.spec c (fun b => m ((c : Thread nD τ).loc b)) ∗ levAts L lv
        ∗ Pipeline.launchCred (fun d => owedL d oblig) c ∗ prngReg c (ρ c) ∗ G' m ρ c)
      ⊢ |={Set.univ}=> iprop(start m ρ c ∗ emp) := by
  iintro ⟨-, Hlev, Hcr, -, HG⟩
  ihave Hc := (launch_owed (F := F) c) $$ Hcr
  imodintro
  unfold start G'
  isplitl
  · isplitl [HG]; · iexact HG
    isplitl [Hlev]
    · unfold levs; iexact Hlev
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  iintro ⟨Hr, Hb, Ho⟩
  isplitl [Hb]; · iexact Hb
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ oblig fun o _ => by rw [stage_lv]; exact lvO_pos o
    · exact mayWait_of c _ [] fun o ho => absurd ho List.not_mem_nil

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with all counters at zero, every fair run of the sixteen cores ends, with each array as
    computed and all counters at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedL d oblig) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are left as they were. -/
theorem finalA_a (c : Dev nD) : finalA m ρ c (0 : Fin 3) = m ((c : Thread nD τ).loc main_arg0) := (dats (F := F) m ρ 0 c).arrAt_in (0 : Fin 3) rfl _
theorem finalA_b (c : Dev nD) : finalA m ρ c (1 : Fin 3) = m ((c : Thread nD τ).loc main_arg1) := (dats (F := F) m ρ 0 c).arrAt_in (1 : Fin 3) rfl _

end Cert.KernelIdeal.Rs
-- ==== Proof.Frames.lean ====
/- The three programs end with their arguments as they were and every counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

open Cert.KernelIdeal Cert.KernelIdeal.Rs in
/-- The kernel, over any floats. -/
theorem run_args {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run _ _ _).mono (fun _ h => ⟨fun c => ⟨(h.1 c (0 : Fin 3)).trans (finalA_a m ρ c), (h.1 c (1 : Fin 3)).trans (finalA_b m ρ c)⟩, h.2⟩) (run_main m ρ)

theorem frame_ideal : Cert.quiescent_KernelIdeal := fun m ρ _ => run_args (F := Ideal) m ρ
/-- The kernel at machine floats has the same text. -/
theorem body_same {F : FTy → Type} [FloatOps F] : Cert.Kernel.defs₀ (F := F) = Cert.KernelIdeal.defs₀ (F := F) := by
  unfold Cert.Kernel.defs₀ Cert.KernelIdeal.defs₀
  congr 1
  funext k x
  match k, x with
  | 0, (t, s) =>
    show Cert.Kernel.cc0_body _ _ _ _ _ _ _ _ _ _ _ _ _ _ _ _ _ _ _ _ _ _ _ _ _ _ _ _ _ _
      = Cert.KernelIdeal.cc0_body _ _ _ _ _ _ _ _ _ _ _ _ _ _ _ _ _ _ _ _ _ _ _ _ _ _ _ _ _ _
    rfl
theorem defs_same {F : FTy → Type} [FloatOps F] : Cert.Kernel.defs (F := F) = Cert.KernelIdeal.defs (F := F) :=
  congrArg (Pipeline.defs Cert.KernelIdeal.pcfgs) body_same

theorem frame_kernel : Cert.quiescent_Kernel := fun m ρ _ => by
  rw [defs_same]
  exact run_args (F := Bits) m ρ

theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

end Cert.Proof

end
-- ==== Proof.Arrays.lean ====
/- What the arrays hold when the kernel ends: the argument blocks as read, the result block as left. -/
module

public import proofs.«01_k».proof.Proof.Launch
public import Idealize.ShloMosaic.Lib.Pipeline.Value

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The blocks a core works on are its argument arrays whole. -/
theorem stA_eq (c : Dev nD) : stA m ρ c = m ((c : Thread nD τ).loc main_arg0) := by
  unfold stA
  funext i
  refine congrArg (m ((c : Thread nD τ).loc main_arg0)) (funext fun a => Fin.ext ?_)
  exact Pipeline.Window.rect_emb_val_of_index_zero win0_0 (0 : Fin 1) a rfl i
theorem stB_eq (c : Dev nD) : stB m ρ c = m ((c : Thread nD τ).loc main_arg1) := by
  unfold stB
  funext i
  refine congrArg (m ((c : Thread nD τ).loc main_arg1)) (funext fun a => Fin.ext ?_)
  exact Pipeline.Window.rect_emb_val_of_index_zero win0_1 (0 : Fin 1) a rfl i

theorem emb_o (i : (win0_2.xblock (grid0.coords (0 : Fin 1))).Idx) : (win0_2.blk (0 : Fin 1)).view.emb i = i :=
  funext fun a => Fin.ext (Pipeline.Window.rect_emb_val_of_index_zero win0_2 (0 : Fin 1) a rfl i)

/-- The result array ends as the core's block of the result. -/
theorem finalA_o (c : Dev nD) : finalA m ρ c (2 : Fin 3) = outB (stA m ρ) (stB m ρ) c := by
  unfold finalA
  refine (dats m ρ 0 c).arrAt_eq_of_cover (2 : Fin 3) _ (fun t _ => ?_) (fun i => ⟨(0 : Fin 1), flush0_2 _, ?_⟩)
  · rw [fin_N0 t]
    funext i
    exact congrArg (outB (stA m ρ) (stB m ρ) c) (emb_o i).symm
  · have h := (win0_2.blk (0 : Fin 1)).view.emb_mem_set i
    rw [emb_o] at h
    exact h

end Cert.KernelIdeal.Rs
-- ==== Proof.Block.lean ====
/- What one product of the kernel computes, read at an index: the slice of the long sum that lies on one core. -/
module

public import proofs.«01_k».proof.Proof.Ends
public import Idealize.ShloMosaic.Lib.StackMember
public import Idealize.ShloMosaic.Lib.KernelVsHost
public import Idealize.ShloMosaic.Lib.Pipeline.Value

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

open Idealize.ShloMosaic.ValueIdx

variable (fA : CA Ideal) (fB : CB Ideal)

/-- An entry of core `d`'s block of `A`, -/
def atA (d : Dev nD) (R : Fin 1024) (k : Fin 512) : EReal := fA d (ix2 R k)
/-- and one of its block of `B`. -/
def atB (d : Dev nD) (k : Fin 512) (C : Fin 1024) : EReal := fB d (ix2 k C)

/-- Row `R` of core `d`'s block of `A` times column `C` of its block of `B`. -/
def tm (d : Dev nD) (R C : Fin 1024) : EReal := ∑ k : Fin 512, atA fA d R k * atB fB d k C

/-- Row `r` of the rows that belong to the core at place `p` of plane `z`, -/
def rw4 (z p : Fin 4) (r : Fin 64) : Fin 1024 := ⟨256 * z.val + 64 * p.val + r.val, by omega⟩
/-- and column `l` of chunk `q`. -/
def cl8 (q : Fin 8) (l : Fin 128) : Fin 1024 := ⟨128 * q.val + l.val, by omega⟩

/-- A slot's contents as a matrix. -/
def flat (v : Sv Ideal) : FVec Ideal S64x128 .f32 := shapeCast S64x128 v shapeCasts_S1x1x64x128_S64x128

theorem flat_cast (v : FVec Ideal S64x128 .f32) : flat (shapeCast S1x1x64x128 v shapeCasts_S64x128_S1x1x64x128) = v :=
  shapeCast_shapeCast v _ _

theorem vA_at (w z : Fin 4) (d : Dev nD) (r : Fin 64) (k : Fin 512) :
    vA fA w z d (ix2 r k) = atA fA d (rw4 z (pp d + w) r) k := by
  have e := aOff_eq w z d
  unfold atA
  show fA d ((aR w z d).emb (ix2 r k)) = fA d _
  refine congrArg (fA d) ?_
  funext a
  refine Fin.ext ?_
  match a with
  | 0 =>
    show aOff w z d 0 + 1 * r.val = _
    rw [e]
    show 256 * z.val + 64 * (pp d + w).val + 1 * r.val = 256 * z.val + 64 * (pp d + w).val + r.val
    omega
  | 1 =>
    show aOff w z d 1 + 1 * k.val = k.val
    rw [e]
    show 0 + 1 * k.val = k.val
    omega

theorem vB_at (q : Fin 8) (d : Dev nD) (k : Fin 512) (l : Fin 128) :
    vB fB q d (ix2 k l) = atB fB d k (cl8 q l) := by
  unfold atB
  show fB d ((bR q).emb (ix2 k l)) = fB d _
  refine congrArg (fB d) ?_
  funext a
  refine Fin.ext ?_
  match a with
  | 0 =>
    show 0 + 1 * k.val = k.val
    omega
  | 1 =>
    show 128 * q.val + 1 * l.val = 128 * q.val + l.val
    omega

/-- A product, read at row `r` and column `l`. -/
theorem flat_prt (w : Fin 4) (d : Dev nD) (q : Fin 8) (z : Fin 4) (r : Fin 64) (l : Fin 128) :
    flat (prt fA fB w d q z) (ix2 r l) = tm fA fB d (rw4 z (pp d + w) r) (cl8 q l) := by
  unfold prt k0_pay1
  dsimp only
  rw [flat_cast, shapeCast_self, shapeCast_self]
  show matmul (DotDims.plain 64 512 128) none (vA fA w z d) (vB fB q d) (constant (⟨2, ![64, 128]⟩ : Shape) .f32 0x00000000#32) (ix2 r l) = _
  rw [matmul_zero_eq_dotGeneral, StackMember.dotGeneral_plain_apply]
  exact Finset.sum_congr rfl fun k _ => congrArg₂ (· * ·) (vA_at fA w z d r k) (vB_at fB q d k l)

end Cert.KernelIdeal.Rs
-- ==== Proof.Sums.lean ====
/- What the exchanges add up: a plane's sum is over its four cores, the result's over all sixteen. -/
module

public import proofs.«01_k».proof.Proof.Block

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

open Idealize.ShloMosaic.ValueIdx

variable (fA : CA Ideal) (fB : CB Ideal)

/-! ## Which cores a sum runs over -/

theorem pz_mk (z p : Fin 4) : pz (mk z p) = z := by revert z p; decide +kernel
theorem pp_mk (z p : Fin 4) : pp (mk z p) = p := by revert z p; decide +kernel

/-- Four terms, started anywhere. -/
theorem sum_from (f : Fin 4 → EReal) (p : Fin 4) : ∑ i, f i = f p + f (p + 1) + f (p + 2) + f (p + 3) := by
  rw [← Equiv.sum_comp (Equiv.addLeft p) f, Fin.sum_univ_four]
  simp only [Equiv.coe_addLeft, add_zero]

/-- The three cores whose products reach core `d` on its plane are the other three there. -/
theorem senders (q : Fin 8) (d : Dev nD) :
    sdr 0 q (sdr 1 q d) = mk (pz d) (pp d + 2)
    ∧ ((sdr 1 q d = mk (pz d) (pp d + 1) ∧ sdr 2 q d = mk (pz d) (pp d + 3))
      ∨ (sdr 1 q d = mk (pz d) (pp d + 3) ∧ sdr 2 q d = mk (pz d) (pp d + 1))) := by
  revert q d; decide +kernel

/-- Each of them multiplies the rows that belong to `d`. -/
theorem aim_relay (q : Fin 8) (d : Dev nD) : pp (sdr 0 q (sdr 1 q d)) + 2 = pp d := by revert q d; decide +kernel
theorem aim_comb (q : Fin 8) (d : Dev nD) : pp (sdr 1 q d) + wC q = pp d := by revert q d; decide +kernel
theorem aim_dir (q : Fin 8) (d : Dev nD) : pp (sdr 2 q d) + wD q = pp d := by revert q d; decide +kernel

theorem plane_sum (T : Dev nD → EReal) (q : Fin 8) (d : Dev nD) :
    T d + T (sdr 2 q d) + (T (sdr 1 q d) + T (sdr 0 q (sdr 1 q d))) = ∑ p, T (mk (pz d) p) := by
  obtain ⟨h0, h⟩ := senders q d
  rw [sum_from (fun p => T (mk (pz d) p)) (pp d), mk_pz_pp, h0]
  rcases h with ⟨h1, h2⟩ | ⟨h1, h2⟩ <;> rw [h1, h2] <;> ac_rfl

/-- The planes a core hears from, after its own. -/
theorem planes_sum (T : Fin 4 → EReal) (d : Dev nD) :
    T (pz d) + T (zp 0 d) + T (zp 1 d) + T (zp 2 d) = ∑ z, T z := by
  have e : ∀ e : Fin 3, zp e d = pz d + (1 + e.castSucc) := fun e => by revert e d; decide +kernel
  rw [sum_from T (pz d), e 0, e 1, e 2]
  rfl

/-- All the planes' cores are all the cores. -/
def place16 : Fin 4 × Fin 4 ≃ Dev nD where
  toFun x := mk x.1 x.2
  invFun d := (pz d, pp d)
  left_inv x := Prod.ext (pz_mk _ _) (pp_mk _ _)
  right_inv d := mk_pz_pp d
theorem mesh_sum (T : Dev nD → EReal) : ∑ z, ∑ p, T (mk z p) = ∑ d, T d := by
  rw [← Equiv.sum_comp place16 T, Fintype.sum_prod_type]
  rfl

/-! ## The sums the kernel keeps -/

theorem flat_cmb (d : Dev nD) (q : Fin 8) (z : Fin 4) (i : S64x128.Idx) :
    flat (cmb fA fB d q z) i = flat (prt fA fB (wC q) d q z) i + flat (prt fA fB 2 (sdr 0 q d) q z) i := by
  unfold cmb k0_pay81
  dsimp only
  rw [flat_cast]
  rfl

theorem flat_pls (d : Dev nD) (q : Fin 8) (z : Fin 4) (r : Fin 64) (l : Fin 128) :
    flat (pls fA fB d q z) (ix2 r l) = ∑ p, tm fA fB (mk (pz d) p) (rw4 z (pp d) r) (cl8 q l) := by
  rw [← plane_sum (fun d' => tm fA fB d' (rw4 z (pp d) r) (cl8 q l)) q d]
  have h0 := flat_prt fA fB 0 d q z r l
  have hR := flat_prt fA fB 2 (sdr 0 q (sdr 1 q d)) q z r l
  have hC := flat_prt fA fB (wC q) (sdr 1 q d) q z r l
  have hD := flat_prt fA fB (wD q) (sdr 2 q d) q z r l
  rw [add_zero] at h0
  rw [aim_relay] at hR
  rw [aim_comb] at hC
  rw [aim_dir] at hD
  rw [← h0, ← hR, ← hC, ← hD, ← flat_cmb]
  unfold pls k0_pay209
  dsimp only
  rw [flat_cast]
  rfl

theorem rows_eq (d : Dev nD) (r : Fin 64) : rw4 (pz d) (pp d) r = ⟨64 * d.val + r.val, by have h := d.isLt; have e : nD = 16 := rfl; omega⟩ := by
  refine Fin.ext ?_
  show 256 * (d.val / 4) + 64 * (d.val % 4) + r.val = 64 * d.val + r.val
  omega

/-- A chunk of the result, read at an index: the rows' products summed over the sixteen cores. -/
theorem res_at (d : Dev nD) (q : Fin 8) (r : Fin 64) (l : Fin 128) :
    res fA fB d q (ix2 r l) = ∑ d', tm fA fB d' (rw4 (pz d) (pp d) r) (cl8 q l) := by
  have hz : ∀ z, flat (zsv fA fB d z q) (ix2 r l) = ∑ p, tm fA fB (mk z p) (rw4 (pz d) (pp d) r) (cl8 q l) := fun z => by
    unfold zsv
    rw [flat_pls, pz_mk, pp_mk]
  rw [← mesh_sum, ← planes_sum (fun z => ∑ p, tm fA fB (mk z p) (rw4 (pz d) (pp d) r) (cl8 q l)) d]
  rw [← flat_pls, ← hz, ← hz, ← hz]
  rfl

theorem outB_at (d : Dev nD) (r : Fin 64) (j : Fin 1024) :
    outB fA fB d (ix2 r j) = ∑ d', tm fA fB d' ⟨64 * d.val + r.val, by have h := d.isLt; have e : nD = 16 := rfl; omega⟩ j := by
  have e : oIdx (ix2 r j) = ix2 r ⟨j.val % 128, Nat.mod_lt _ (by decide)⟩ := by
    funext a
    match a with
    | 0 => rfl
    | 1 => rfl
  unfold outB
  rw [e]
  refine (res_at fA fB d _ _ _).trans ?_
  rw [rows_eq]
  refine Finset.sum_congr rfl fun d' _ => congrArg (tm fA fB d' _) (Fin.ext ?_)
  show 128 * (j.val / 128) + j.val % 128 = j.val
  omega

end Cert.KernelIdeal.Rs
-- ==== Proof.Product.lean ====
/- The kernel's block of the result is the core's block of the product of the whole arrays. -/
module

public import proofs.«01_k».proof.Proof.Sums
public import Idealize.ShloMosaic.Lib.Layout

@[expose] public section

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

open Idealize.ShloMosaic.ValueIdx

/-- The whole arrays. -/
abbrev WA := (⟨2, ![1024, 8192]⟩ : Shape).Idx → EReal
abbrev WB := (⟨2, ![8192, 1024]⟩ : Shape).Idx → EReal

/-- Place `k` of core `d`'s part of the long dimension. -/
def at16 (d : Fin 16) (k : Fin 512) : Fin 8192 := ⟨512 * d.val + k.val, by omega⟩

/-- A sum over the long dimension, core by core. -/
theorem long_sum (f : Fin 8192 → EReal) : ∑ d, ∑ k, f (at16 d k) = ∑ K, f K := by
  rw [← Equiv.sum_comp (finProdFinEquiv : Fin 16 × Fin 512 ≃ Fin (16 * 512)) f, Fintype.sum_prod_type]
  refine Finset.sum_congr rfl fun d _ => Finset.sum_congr rfl fun k _ => congrArg f (Fin.ext ?_)
  show 512 * d.val + k.val = k.val + 512 * d.val
  omega

theorem a_block (A : WA) (d : Dev nD) (R : Fin 1024) (k : Fin 512) :
    Layout.block ⟨2, ![1024, 512]⟩ ⟨2, ![1024, 8192]⟩ 1 16 d A (by decide) (ix2 R k) = A (ix2 R (at16 d k)) := by
  rw [Layout.block_apply]
  refine congrArg A (funext fun a => Fin.ext ?_)
  match a with
  | 0 => rfl
  | 1 =>
    show d.val * 512 + k.val = 512 * d.val + k.val
    omega

theorem b_block (B : WB) (d : Dev nD) (k : Fin 512) (C : Fin 1024) :
    Layout.block ⟨2, ![512, 1024]⟩ ⟨2, ![8192, 1024]⟩ 0 16 d B (by decide) (ix2 k C) = B (ix2 (at16 d k) C) := by
  rw [Layout.block_apply]
  refine congrArg B (funext fun a => Fin.ext ?_)
  match a with
  | 0 =>
    show d.val * 512 + k.val = 512 * d.val + k.val
    omega
  | 1 => rfl

/-- The product of the whole arrays. -/
abbrev prod (A : WA) (B : WB) : (⟨2, ![1024, 1024]⟩ : Shape).Idx → EReal :=
  Host.dotGeneral (F := Ideal) (φ₁ := .f32) (φ₂ := .f32) (DotDims.plain 1024 8192 1024) none A B

/-- The sixteen cores' parts of an entry add up to the entry of the product. -/
theorem sum_tm (A : WA) (B : WB) (fA : CA Ideal) (fB : CB Ideal) (hA : ∀ d R k, atA fA d R k = A (ix2 R (at16 d k)))
    (hB : ∀ d k C, atB fB d k C = B (ix2 (at16 d k) C)) (R C : Fin 1024) :
    ∑ d, tm fA fB d R C = prod A B (ix2 R C) := by
  refine Eq.trans ?_ (StackMember.dotGeneral_plain_apply none A B R C).symm
  rw [← long_sum (fun K => A (ix2 R K) * B (ix2 K C))]
  unfold tm
  exact Finset.sum_congr rfl fun d _ => Finset.sum_congr rfl fun k _ => congrArg₂ (· * ·) (hA d R k) (hB d k C)

/-- The rows a core's block of the result starts at. -/
theorem block_row (A : WA) (B : WB) (c : Dev nD) (r : Fin 64) (j : Fin 1024) :
    prod A B (ix2 ⟨64 * c.val + r.val, by have h := c.isLt; have e : nD = 16 := rfl; omega⟩ j)
      = Layout.block ⟨2, ![64, 1024]⟩ ⟨2, ![1024, 1024]⟩ 0 16 c (prod A B) (by decide) (ix2 r j) := by
  rw [Layout.block_apply]
  refine congrArg (prod A B) (funext fun a => Fin.ext ?_)
  match a with
  | 0 =>
    show 64 * c.val + r.val = c.val * 64 + r.val
    omega
  | 1 => rfl

theorem outB_eq (A : WA) (B : WB) (fA : CA Ideal) (fB : CB Ideal)
    (hA : ∀ d, fA d = Layout.block ⟨2, ![1024, 512]⟩ ⟨2, ![1024, 8192]⟩ 1 16 d A)
    (hB : ∀ d, fB d = Layout.block ⟨2, ![512, 1024]⟩ ⟨2, ![8192, 1024]⟩ 0 16 d B) (c : Dev nD) :
    outB fA fB c = Layout.block ⟨2, ![64, 1024]⟩ ⟨2, ![1024, 1024]⟩ 0 16 c (prod A B) := by
  have hA' : ∀ d R k, atA fA d R k = A (ix2 R (at16 d k)) := fun d R k => (congrFun (hA d) _).trans (a_block A d R k)
  have hB' : ∀ d k C, atB fB d k C = B (ix2 (at16 d k) C) := fun d k C => (congrFun (hB d) _).trans (b_block B d k C)
  have hrj : ∀ (r : Fin 64) (j : Fin 1024), outB fA fB c (ix2 r j)
      = Layout.block ⟨2, ![64, 1024]⟩ ⟨2, ![1024, 1024]⟩ 0 16 c (prod A B) (by decide) (ix2 r j) := fun r j =>
    (outB_at fA fB c r j).trans ((sum_tm A B fA fB hA' hB' _ j).trans (block_row A B c r j))
  funext i
  have ei : i = ix2 (n0 := 64) (n1 := 1024) (i 0) (i 1) := eq_ix2 i
  rw [ei]
  exact hrj _ _

end Cert.KernelIdeal.Rs
-- ==== Proof.Value.lean ====
/- The kernel's result is the reference's, block by block. -/
module

public import proofs.«01_k».proof.Defs
public import proofs.«01_k».proof.Proof.Arrays
public import proofs.«01_k».proof.Proof.Product
public import proofs.«01_k».proof.Proof.Gen.ReferenceIdeal.Run

@[expose] public section

noncomputable section

namespace Cert.Proof

open Idealize.ShloMosaic Idealize.ShloMosaic.TcCoe Idealize.SL.Sem

open Cert.KernelIdeal Cert.KernelIdeal.Rs in
/-- A run of the kernel on the blocks of two whole arrays leaves the blocks of their product. -/
theorem run_value (m : (ℓ : Loc nD τ sig) → Buf (Elt Ideal) ℓ) (ρ : Dev nD → PrngReg) (A : WA) (B : WB)
    (hA : ∀ c : Dev nD, m ((c : Thread nD τ).loc main_arg0) = Layout.block ⟨2, ![1024, 512]⟩ ⟨2, ![1024, 8192]⟩ 1 16 c A)
    (hB : ∀ c : Dev nD, m ((c : Thread nD τ).loc main_arg1) = Layout.block ⟨2, ![512, 1024]⟩ ⟨2, ![8192, 1024]⟩ 0 16 c B) :
    θ_run (defs (F := Ideal)) (onTc (τ := τ) (main (F := Ideal))) ⟨m, fun _ => 0, ρ⟩ fun r => ∀ c : Dev nD,
      r.2.mem ((c : Thread nD τ).loc main_v1) = Layout.block ⟨2, ![64, 1024]⟩ ⟨2, ![1024, 1024]⟩ 0 16 c (prod A B)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c =>
    ⟨(h.1 c (2 : Fin 3)).trans ((finalA_o m ρ c).trans
        (outB_eq A B (stA m ρ) (stB m ρ) (fun d => (stA_eq m ρ d).trans (hA d)) (fun d => (stB_eq m ρ d).trans (hB d)) c)),
      (h.1 c (0 : Fin 3)).trans (finalA_a m ρ c), (h.1 c (1 : Fin 3)).trans (finalA_b m ρ c)⟩) (run_main m ρ)

theorem value : Cert.algebraic_KernelIdeal_ReferenceIdeal := fun m g m' g' _ hin =>
  ⟨_, run_value m g _ _ (fun c => (hin c).1) (fun c => (hin c).2),
    (θ_run _ _ _).mono (fun _ h => h 0) (Cert.ReferenceIdeal.Value.run (F := Ideal) m' g')⟩

end Cert.Proof

end
-- ==== Proof.lean ====
/- The certificate: the three programs terminate with their arguments as they were and every counter at
   zero, the ideal kernel is the kernel read over the extended reals, and its result is the reference's,
   block by block. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  frame_kernel, frame_ideal, frame_reference, trivial, value⟩

end Cert.Proof

end
